-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x1024x16x128 : S_.BroadcastsInDim S8x1024x16x128 (![] : Fin 0 → Fin S8x1024x16x128.rank)
  reducesTo_S8x1024x16x128_S_d0_1_2_3 : S8x1024x16x128.ReducesTo [0, 1, 2, 3] S_

variable [Facts]

def fn {F : FTy → Type} [FloatOps F] (main_arg0 : FVec F S8x8x16x128 .f32) (main_arg1 : FVec F S8x1024x16x128 .f32) (main_arg2 : FVec F S8x1024x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x1024x16x128 .f32 := Host.absf main_arg1
  let main_cst_0 : FVec F S_ .f32 := constant S_ .f32 0x7F800000#32
  let main_v5 : FVec F S8x1024x16x128 .f32 := broadcastInDim S8x1024x16x128 ![] bcast_S_S8x1024x16x128 main_cst_0
  let main_v6 : IVec S8x1024x16x128 1 := cmpf .olt main_v4 main_v5
  let main_c_1 : IVec S_ 1 := constantI S_ 1 1#1
  let main_v7 : IVec S_ 1 := (fun x v => Host.reduce IntOp.andi x v reducesTo_S8x1024x16x128_S_d0_1_2_3 h_S_) main_v6 main_c_1
  let main_v8 : IVec S_ 1 := andi main_v3 main_v7
  main_v8
-- ==== Pre_finite_qk_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_

variable [Facts]

def fn {F : FTy → Type} [FloatOps F] (main_arg0 : FVec F S8x8x16x128 .f32) (main_arg1 : FVec F S8x2048x16x128 .f32) (main_arg2 : FVec F S8x2048x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x2048x16x128 .f32 := Host.absf main_arg1
  let main_cst_0 : FVec F S_ .f32 := constant S_ .f32 0x7F800000#32
  let main_v5 : FVec F S8x2048x16x128 .f32 := broadcastInDim S8x2048x16x128 ![] bcast_S_S8x2048x16x128 main_cst_0
  let main_v6 : IVec S8x2048x16x128 1 := cmpf .olt main_v4 main_v5
  let main_c_1 : IVec S_ 1 := constantI S_ 1 1#1
  let main_v7 : IVec S_ 1 := (fun x v => Host.reduce IntOp.andi x v reducesTo_S8x2048x16x128_S_d0_1_2_3 h_S_) main_v6 main_c_1
  let main_v8 : IVec S_ 1 := andi main_v3 main_v7
  main_v8
-- ==== Kernel.lean ====
abbrev S8x8x16x128 : Shape := ⟨4, ![8, 8, 16, 128]⟩
abbrev S8x1024x16x128 : Shape := ⟨4, ![8, 1024, 16, 128]⟩
abbrev S1x8x16x128 : Shape := ⟨4, ![1, 8, 16, 128]⟩
abbrev S1x1024x16x128 : Shape := ⟨4, ![1, 1024, 16, 128]⟩
abbrev S16384x128 : Shape := ⟨2, ![16384, 128]⟩
abbrev S16384x8 : Shape := ⟨2, ![16384, 8]⟩
abbrev S8x128x1 : Shape := ⟨3, ![8, 128, 1]⟩
abbrev S8 : Shape := ⟨1, ![8]⟩
abbrev S_ : Shape := ⟨0, ![]⟩
abbrev S8x16x128 : Shape := ⟨3, ![8, 16, 128]⟩
abbrev S128x128 : Shape := ⟨2, ![128, 128]⟩
abbrev S1024x16x128 : Shape := ⟨3, ![1024, 16, 128]⟩
abbrev S128x8 : Shape := ⟨2, ![128, 8]⟩
abbrev S128x1 : Shape := ⟨2, ![128, 1]⟩
abbrev S1x128x1 : Shape := ⟨3, ![1, 128, 1]⟩
abbrev S1 : Shape := ⟨1, ![1]⟩
abbrev S8x128x128 : Shape := ⟨3, ![8, 128, 128]⟩

abbrev nBuf : Space → Nat
  | .hbm => 4
  | .vmem => 13
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S1x8x16x128, .f32⟩
  | .local _ .vmem, ⟨1, _⟩ => ⟨S1x8x16x128, .f32⟩
  | .local _ .vmem, ⟨2, _⟩ => ⟨S1x1024x16x128, .f32⟩
  | .local _ .vmem, ⟨3, _⟩ => ⟨S1x1024x16x128, .f32⟩
  | .local _ .vmem, ⟨4, _⟩ => ⟨S1x1024x16x128, .f32⟩
  | .local _ .vmem, ⟨5, _⟩ => ⟨S1x1024x16x128, .f32⟩
  | .local _ .vmem, ⟨6, _⟩ => ⟨S8x8x16x128, .f32⟩
  | .local _ .vmem, ⟨7, _⟩ => ⟨S16384x128, .bf16⟩
  | .local _ .vmem, ⟨8, _⟩ => ⟨S16384x8, .bf16⟩
  | .local _ .vmem, ⟨9, _⟩ => ⟨S8x8x16x128, .f32⟩
  | .local _ .vmem, ⟨10, _⟩ => ⟨S8x128x1, .f32⟩
  | .local _ .vmem, ⟨11, _⟩ => ⟨S8x8x16x128, .f32⟩
  | .local _ .vmem, ⟨12, _⟩ => ⟨S8x128x1, .f32⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_3 : BitVec 32 := 0#32
  let v12 : BitVec 1 := Scalar.cmpi .ne v11 c0_i32_3
  v12

def k0_dev1 (d0 : Dev nD) : Nat :=
  let c0_i32_66 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_65 : BitVec 32 := 8#32
  let v123 : BitVec 32 := Scalar.muli v9 c8_i32_65
  let v124 : BitVec 32 := Scalar.addi c0_i32_66 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_67 : BitVec 32 := 4#32
  let v125 : BitVec 32 := Scalar.muli v5 c4_i32_67
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v127 : BitVec 32 := Scalar.muli v8 c1_i32_68
  let v128 : BitVec 32 := Scalar.addi v126 v127
  v128.toNat
def k0_off1 (i : grid0.Coords) : Fin 4 → Nat :=
  let arg0 : BitVec 32 := BitVec.ofNat 32 (i 0).val
  let v37 : Index := Scalar.indexCast arg0
  let c0_22 : Index := 0#32
  let c0_23 : Index := 0#32
  let c0_24 : Index := 0#32
  ![v37.toNat, 0, 0, 0]
def k0_off2 (i : grid0.Coords) : Fin 3 → Nat :=
  let arg0 : BitVec 32 := BitVec.ofNat 32 (i 0).val
  let v41 : Index := Scalar.indexCast arg0
  let c0_25 : Index := 0#32
  let c0_26 : Index := 0#32
  ![v41.toNat, 0, 0]
def k0_off3 (i : grid0.Coords) : Fin 1 → Nat :=
  let arg0 : BitVec 32 := BitVec.ofNat 32 (i 0).val
  ![arg0.toNat]
def k0_off4 (i : grid0.Coords) : Fin 4 → Nat :=
  let arg0 : BitVec 32 := BitVec.ofNat 32 (i 0).val
  let c0_i32_31 : BitVec 32 := 0#32
  let c0_i32_32 : BitVec 32 := 0#32
  let c0_i32_33 : BitVec 32 := 0#32
  ![arg0.toNat, 0, 0, 0]
def k0_dev2 (d0 : Dev nD) : Nat :=
  let c0_i32_28 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_27 : BitVec 32 := 8#32
  let v45 : BitVec 32 := Scalar.muli v9 c8_i32_27
  let v46 : BitVec 32 := Scalar.addi c0_i32_28 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 32 := Scalar.muli v8 c1_i32_30
  let v50 : BitVec 32 := Scalar.addi v48 v49
  v50.toNat
def k0_off5 (i : grid0.Coords) : Fin 3 → Nat :=
  let arg0 : BitVec 32 := BitVec.ofNat 32 (i 0).val
  let c0_i32_41 : BitVec 32 := 0#32
  let c0_i32_42 : BitVec 32 := 0#32
  ![arg0.toNat, 0, 0]
def k0_dev3 (d0 : Dev nD) : Nat :=
  let c0_i32_38 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_37 : BitVec 32 := 8#32
  let v59 : BitVec 32 := Scalar.muli v9 c8_i32_37
  let v60 : BitVec 32 := Scalar.addi c0_i32_38 v59
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v61 : BitVec 32 := Scalar.muli v5 c4_i32_39
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v63 : BitVec 32 := Scalar.muli v8 c1_i32_40
  let v64 : BitVec 32 := Scalar.addi v62 v63
  v64.toNat
def k0_cond2 (i : grid0.Coords) : BitVec 1 :=
  let arg0 : BitVec 32 := BitVec.ofNat 32 (i 0).val
  let c7_i32 : BitVec 32 := 7#32
  let v73 : BitVec 1 := Scalar.cmpi .eq arg0 c7_i32
  let v74 : BitVec 32 := Scalar.extui v73
  let c0_i32_45 : BitVec 32 := 0#32
  let v75 : BitVec 1 := Scalar.cmpi .ne v74 c0_i32_45
  v75

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x8x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8x8x16x128 : Shape := ⟨4, ![8, 8, 16, 128]⟩
abbrev S8x2048x16x128 : Shape := ⟨4, ![8, 2048, 16, 128]⟩
abbrev S8x16x8x2048 : Shape := ⟨4, ![8, 16, 8, 2048]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 20
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x2048x16x128, .f32⟩
  | .hbm, ⟨2, _⟩ => ⟨S8x2048x16x128, .f32⟩
  | .hbm, ⟨3, _⟩ => ⟨S8x16x8x2048, .f32⟩
  | .hbm, ⟨4, _⟩ => ⟨S_, .f32⟩
  | .hbm, ⟨5, _⟩ => ⟨S8x16x8x2048, .f32⟩
  | .hbm, ⟨6, _⟩ => ⟨S8x16x8x2048, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x2048, .f32⟩
  | .hbm, ⟨11, _⟩ => ⟨S8x16x8x2048, .f32⟩
  | .hbm, ⟨12, _⟩ => ⟨S8x16x8x2048, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x2048, .f32⟩
  | .hbm, ⟨17, _⟩ => ⟨S8x16x8x2048, .f32⟩
  | .hbm, ⟨18, _⟩ => ⟨S8x16x128x8, .f32⟩
  | .hbm, ⟨19, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Cells.lean ====
/-
# `Cells`: the peers, the message rows, the semaphores and what the rows hold

Device `c` of the sixteen works with one peer, the device with the other coordinate of the mesh's first axis. For each of
the eight examples `j` it sends its row `j` of the partial numerators and its row `j` of the partial normalisers into the
same rows of the peer's two landing buffers. Four arrays of eight DMA semaphores carry the two transfers: for each of the
two kinds of row, one semaphore per row signalled when the row has left and one when the peer's row has arrived.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Pointwise.Index
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy and the exchange's own, both with one duty name -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peer -/

/-- The peer of device `c`: the other coordinate of the first axis, the same coordinates of the other two. -/
def peer (c : Dev nD) : Dev nD := ⟨(c.val + 8) % 16, Nat.mod_lt _ (by decide)⟩

theorem peer_peer (c : Dev nD) : peer (peer c) = c := by revert c; decide

theorem dev_form (d : Dev nD) : (4 * ((d.val / 4) % 2) + d.val % 4 + 8) - 8 * (d.val / 8) = (peer d).val := by revert d; decide

/-- The device the entry signal names, -/
theorem dev1_eq (c : Dev nD) (h : k0_dev1 c < nD) : (⟨k0_dev1 c, h⟩ : Dev nD) = peer c := Fin.ext ((k0_dev1_eq c).trans (dev_form c))
/-- the device the numerators' row is sent to, -/
theorem dev2_eq (c : Dev nD) : (⟨k0_dev2 c, k0_dev2_lt c⟩ : Dev nD) = peer c := Fin.ext ((k0_dev2_eq c).trans (dev_form c))
/-- and the device the normalisers' row is sent to: each the peer. -/
theorem dev3_eq (c : Dev nD) : (⟨k0_dev3 c, k0_dev3_lt c⟩ : Dev nD) = peer c := Fin.ext ((k0_dev3_eq c).trans (dev_form c))

/-- The pairing of the devices, as a permutation. -/
def pairing : Dev nD ≃ Dev nD := ⟨peer, peer, peer_peer, peer_peer⟩

/-! ## The scratch buffers and their rows -/

abbrev penM : Memref sig .tc .vmem S16384x128 .bf16 := Memref.whole cc0_scratch0
abbrev onesM : Memref sig .tc .vmem S16384x8 .bf16 := Memref.whole cc0_scratch1
abbrev numM : Memref sig .tc .vmem S8x8x16x128 .f32 := Memref.whole cc0_scratch2
abbrev lM : Memref sig .tc .vmem S8x128x1 .f32 := Memref.whole cc0_scratch3
abbrev rnumM : Memref sig .tc .vmem S8x8x16x128 .f32 := Memref.whole cc0_scratch4
abbrev rlM : Memref sig .tc .vmem S8x128x1 .f32 := Memref.whole cc0_scratch5

theorem inbN (j : Fin 8) : ∀ a, (![j.val, 0, 0, 0] : Fin 4 → ℕ) a + S1x8x16x128.size a ≤ S8x8x16x128.size a := by revert j; decide
theorem inbL (j : Fin 8) : ∀ a, (![j.val, 0, 0] : Fin 3 → ℕ) a + S1x128x1.size a ≤ S8x128x1.size a := by revert j; decide

/-- Row `j` of a buffer of numerators, as a rectangle, -/
abbrev rectN (j : Fin 8) : Rect S8x8x16x128 := Rect.unit (s := S8x8x16x128) ![j.val, 0, 0, 0] S1x8x16x128.size (inbN j)
/-- and of a buffer of normalisers. -/
abbrev rectL (j : Fin 8) : Rect S8x128x1 := Rect.unit (s := S8x128x1) ![j.val, 0, 0] S1x128x1.size (inbL j)

/-- The elements of row `j`. -/
def setN (j : Fin 8) : Finset S8x8x16x128.Idx := (rectN j).set
def setL (j : Fin 8) : Finset S8x128x1.Idx := (rectL j).set

theorem mem_setN {j : Fin 8} {i : S8x8x16x128.Idx} : i ∈ setN j ↔ i 0 = j := by
  unfold setN
  rw [Rect.mem_set_unit]
  constructor
  · intro h
    have h0 := h 0
    exact Fin.ext (by
      have h1 : j.val ≤ (i 0).val := h0.1
      have h2 : (i 0).val < j.val + 1 := h0.2
      omega)
  · rintro rfl a
    match a with
    | ⟨0, _⟩ => exact ⟨le_refl _, Nat.lt_succ_self _⟩
    | ⟨1, h⟩ => exact ⟨Nat.zero_le _, by have := (i ⟨1, h⟩).isLt; change _ < 0 + 8; change _ < 8 at this; omega⟩
    | ⟨2, h⟩ => exact ⟨Nat.zero_le _, by have := (i ⟨2, h⟩).isLt; change _ < 0 + 16; change _ < 16 at this; omega⟩
    | ⟨3, h⟩ => exact ⟨Nat.zero_le _, by have := (i ⟨3, h⟩).isLt; change _ < 0 + 128; change _ < 128 at this; omega⟩

theorem mem_setL {j : Fin 8} {i : S8x128x1.Idx} : i ∈ setL j ↔ i 0 = j := by
  unfold setL
  rw [Rect.mem_set_unit]
  constructor
  · intro h
    have h0 := h 0
    exact Fin.ext (by
      have h1 : j.val ≤ (i 0).val := h0.1
      have h2 : (i 0).val < j.val + 1 := h0.2
      omega)
  · rintro rfl a
    match a with
    | ⟨0, _⟩ => exact ⟨le_refl _, Nat.lt_succ_self _⟩
    | ⟨1, h⟩ => exact ⟨Nat.zero_le _, by have := (i ⟨1, h⟩).isLt; change _ < 0 + 128; change _ < 128 at this; omega⟩
    | ⟨2, h⟩ => exact ⟨Nat.zero_le _, by have := (i ⟨2, h⟩).isLt; change _ < 0 + 1; change _ < 1 at this; omega⟩

theorem setN_disjoint : ∀ j j', j ≠ j' → Disjoint (setN j) (setN j') := fun j j' h =>
  Finset.disjoint_left.mpr fun i hi hi' => h ((mem_setN.mp hi).symm.trans (mem_setN.mp hi'))
theorem setL_disjoint : ∀ j j', j ≠ j' → Disjoint (setL j) (setL j') := fun j j' h =>
  Finset.disjoint_left.mpr fun i hi hi' => h ((mem_setL.mp hi).symm.trans (mem_setL.mp hi'))
theorem setN_cover : Finset.univ.biUnion setN = Finset.univ := by
  ext i; simp only [Finset.mem_biUnion, Finset.mem_univ, true_and, iff_true]; exact ⟨i 0, mem_setN.mpr rfl⟩
theorem setL_cover : Finset.univ.biUnion setL = Finset.univ := by
  ext i; simp only [Finset.mem_biUnion, Finset.mem_univ, true_and, iff_true]; exact ⟨i 0, mem_setL.mpr rfl⟩

/-- Row `j` of a buffer of numerators as the transfers name it: the slice, its first axis dropped. -/
abbrev rowN (M : Memref sig .tc .vmem S8x8x16x128 .f32) (j : Fin 8) : Memref sig .tc .vmem S8x16x128 .f32 :=
  (M.slice (rectN j) (fun _ => rfl)).squeeze S8x16x128 squeezes_S1x8x16x128_S8x16x128
/-- Row `j` of a buffer of normalisers likewise. -/
abbrev rowL (M : Memref sig .tc .vmem S8x128x1 .f32) (j : Fin 8) : Memref sig .tc .vmem S128x1 .f32 :=
  (M.slice (rectL j) (fun _ => rfl)).squeeze S128x1 squeezes_S1x128x1_S128x1

theorem set_num (j : Fin 8) : (rowN numM j).view.set = setN j := (View.set_reshape _ _).trans (View.set_slice_whole _ _)
theorem set_rnum (j : Fin 8) : (rowN rnumM j).view.set = setN j := (View.set_reshape _ _).trans (View.set_slice_whole _ _)
theorem set_l (j : Fin 8) : (rowL lM j).view.set = setL j := (View.set_reshape _ _).trans (View.set_slice_whole _ _)
theorem set_rl (j : Fin 8) : (rowL rlM j).view.set = setL j := (View.set_reshape _ _).trans (View.set_slice_whole _ _)

/-! ## The semaphores -/

/-- The barrier semaphore. -/
abbrev barS : Sem sig := (SemArray.scalar (sig.barrier 0 rfl) : Sems sig S_).sem

theorem dS_lt (k : Fin 4) (j : Fin 8) : 7 + 8 * k.val + j.val < 39 := by omega
/-- The DMA semaphore of row `j` of kind `k`: 0 the numerators' row has left, 1 the peer's has arrived, 2 the normalisers'
    row has left, 3 the peer's has arrived. -/
def dS (k : Fin 4) (j : Fin 8) : DmaSem sig := ⟨7 + 8 * k.val + j.val, dS_lt k j⟩

theorem dS_inj {k k' : Fin 4} {j j' : Fin 8} (h : dS k j = dS k' j') : k = k' ∧ j = j' := by
  have h' : 7 + 8 * k.val + j.val = 7 + 8 * k'.val + j'.val := congrArg Fin.val h
  exact ⟨Fin.ext (by omega), Fin.ext (by omega)⟩

/-- Device `c`'s barrier cell and its cell of row `j` of kind `k`. -/
abbrev barCell (c : Dev nD) : GSem nD τ sig := ((c : Thread nD τ), .reg barS)
abbrev cell (c : Dev nD) (k : Fin 4) (j : Fin 8) : GSem nD τ sig := ((c : Thread nD τ), .dma (dS k j))

/-- The names of a device's cells: the barrier, and a kind and a row. -/
abbrev CK : Type := Unit ⊕ (Fin 4 × Fin 8)
/-- The kernel's own (scoped) semaphores, -/
abbrev osem : Fin 4 × Fin 8 → SemLoc sig := fun kj => .dma (dS kj.1 kj.2)
/-- and the barrier with them. -/
abbrev csem : CK → SemLoc sig := fun | .inl _ => .reg barS | .inr kj => osem kj
abbrev kcell (ck : Dev nD × CK) : GSem nD τ sig := ((ck.1 : Thread nD τ), csem ck.2)

theorem cell_inj {c c' : Dev nD} {k k' : Fin 4} {j j' : Fin 8} (h : cell c k j = cell c' k' j') : c = c' ∧ k = k' ∧ j = j' := by
  refine ⟨?_, dS_inj (SemLoc.dma.inj (congrArg Prod.snd h))⟩
  exact congrArg (fun g : GSem nD τ sig => g.1.1) h

theorem bar_inj {c c' : Dev nD} (h : barCell c = barCell c') : c = c' := congrArg (fun g : GSem nD τ sig => g.1.1) h

theorem bar_ne_cell {c c' : Dev nD} {k : Fin 4} {j : Fin 8} : barCell c ≠ cell c' k j := fun h => by
  have := congrArg Prod.snd h; cases this

/-- The units a transfer of a row of numerators credits, -/
abbrev NN : ℕ := (rowN numM 0).view.dmaCredit
/-- and of a row of normalisers. -/
abbrev NL : ℕ := (rowL lM 0).view.dmaCredit
theorem NN_pos : 0 < NN := View.dmaCredit_pos _ (by decide)
theorem NL_pos : 0 < NL := View.dmaCredit_pos _ (by decide)

/-- The units a cell of kind `k` counts to. -/
def NK (k : Fin 4) : ℕ := if k.val < 2 then NN else NL
theorem NK_pos (k : Fin 4) : 0 < NK k := by unfold NK; split; exacts [NN_pos, NL_pos]

/-! ## What the rows hold -/

theorem cfg0_N : cfg0.N = 8 := N_0
/-- Grid point `j`. -/
def pt (j : Fin 8) : Fin cfg0.N := ⟨j.val, by rw [cfg0_N]; exact j.isLt⟩

/-- The contents of the buffer of ones. -/
def onesV : FVec F S16384x8 .bf16 := k0_pay5 (Scalar.ofBits .bf16 0x3F80#16)

/-- The exponentials device `c` computes for example `j`. -/
def expAt (c : Dev nD) (j : Fin 8) : FVec F S16384x128 .bf16 := k0_pay6 (iblk m c 0 (pt j)) (iblk m c 1 (pt j)) k0_pay2
/-- The row of numerators it computes for example `j`, -/
def numRow (c : Dev nD) (j : Fin 8) : FVec F S1x8x16x128 .f32 := k0_pay8 (expAt m c j) (k0_pay7 (iblk m c 2 (pt j)))
/-- and the row of normalisers. -/
def lRow (c : Dev nD) (j : Fin 8) : FVec F S1x128x1 .f32 := k0_pay9 (expAt m c j) onesV

/-- All eight rows of numerators, as contents of the whole buffer, -/
def numAll (c : Dev nD) : FVec F S8x8x16x128 .f32 := fun i => numRow m c (i 0) (ix4 0 (i 1) (i 2) (i 3))
/-- and all eight rows of normalisers. -/
def lAll (c : Dev nD) : FVec F S8x128x1 .f32 := fun i => lRow m c (i 0) (ix3 0 (i 1) (i 2))

/-- The result on device `c`: the sum of its own and its peer's numerators over the sum of the normalisers. -/
def outAt (c : Dev nD) : FVec F S8x8x16x128 .f32 :=
  k0_pay1 (k0_pay3 (numAll m c) (numAll m (peer c))) (k0_pay4 (lAll m c) (lAll m (peer c)))

/-! ## The rows held -/

/-- Row `j` of device `c`'s numerators, at contents that agree with `f` there, -/
def ownN (c : Dev nD) (j : Fin 8) (f : FVec F S8x8x16x128 .f32) : sProp 𝕄 := ((c : Thread nD τ).loc cc0_scratch2) ↦[setN j]{fullShare} f
/-- of the buffer its peer's numerators land in, -/
def rcvN (c : Dev nD) (j : Fin 8) (f : FVec F S8x8x16x128 .f32) : sProp 𝕄 := ((c : Thread nD τ).loc cc0_scratch4) ↦[setN j]{fullShare} f
/-- of its normalisers, -/
def ownL (c : Dev nD) (j : Fin 8) (f : FVec F S8x128x1 .f32) : sProp 𝕄 := ((c : Thread nD τ).loc cc0_scratch3) ↦[setL j]{fullShare} f
/-- and of the buffer its peer's normalisers land in. -/
def rcvL (c : Dev nD) (j : Fin 8) (f : FVec F S8x128x1 .f32) : sProp 𝕄 := ((c : Thread nD τ).loc cc0_scratch5) ↦[setL j]{fullShare} f

instance ownN_storable (c : Dev nD) (j : Fin 8) (f) : BI.Storable (upEmb : UEmb _ 𝕄) (ownN (F := F) c j f) := by unfold ownN; infer_instance
instance rcvN_storable (c : Dev nD) (j : Fin 8) (f) : BI.Storable (upEmb : UEmb _ 𝕄) (rcvN (F := F) c j f) := by unfold rcvN; infer_instance
instance ownL_storable (c : Dev nD) (j : Fin 8) (f) : BI.Storable (upEmb : UEmb _ 𝕄) (ownL (F := F) c j f) := by unfold ownL; infer_instance
instance rcvL_storable (c : Dev nD) (j : Fin 8) (f) : BI.Storable (upEmb : UEmb _ 𝕄) (rcvL (F := F) c j f) := by unfold rcvL; infer_instance

/-- What the cell of row `j` of kind `k` hands back: the row that has left, or the peer's row that has arrived. -/
def dmaPay (c : Dev nD) (k : ℕ) (j : Fin 8) : sProp 𝕄 :=
  match k with
  | 0 => ownN c j (numAll m c)
  | 1 => rcvN c j (numAll m (peer c))
  | 2 => ownL c j (lAll m c)
  | _ => rcvL c j (lAll m (peer c))

/-- What the entry signal hands device `c`: the rows of its peer's two landing buffers. -/
def barPay (c : Dev nD) : sProp 𝕄 := bigSep Finset.univ fun j : Fin 8 => iprop((∃ f, rcvN (peer c) j f) ∗ ∃ f, rcvL (peer c) j f)

instance dmaPay_storable (c : Dev nD) (k : ℕ) (j : Fin 8) : BI.Storable (upEmb : UEmb _ 𝕄) (dmaPay (F := F) m c k j) := by
  unfold dmaPay; split <;> infer_instance
instance barPay_storable (c : Dev nD) : BI.Storable (upEmb : UEmb _ 𝕄) (barPay (F := F) c) := by unfold barPay; infer_instance

/-! ## A store of a row, and a transfer of one -/

/-- After the row `numRow m c j` is stored at row `j`, the row holds `numAll m c`. -/
theorem store_num (c : Dev nD) (j : Fin 8) (f : FVec F S8x8x16x128 .f32) (i : S8x8x16x128.Idx) (hi : i ∈ setN j) :
    (numM.access (rectN j) : View sig .tc _ _ _).write (Elt F) f (numRow m c j) Finset.univ i = numAll m c i := by
  have hi' : i ∈ (numM.access (rectN j) : View sig .tc _ _ _).set := by rw [View.set_slice_whole]; exact hi
  obtain ⟨x, -, rfl⟩ := Finset.mem_map.mp hi'
  rw [View.write_emb_of_mem _ _ (Finset.mem_univ x)]
  unfold numAll
  have h0 : ((numM.access (rectN j) : View sig .tc _ _ _).emb x : S8x8x16x128.Idx) 0 = j := mem_setN.mp hi
  rw [h0]
  refine congrArg (numRow m c j) (funext fun a => ?_)
  match a with
  | ⟨0, _⟩ => exact Subsingleton.elim (α := Fin 1) _ _
  | ⟨1, _⟩ => exact Fin.ext ((Nat.zero_add _).trans (Nat.one_mul _)).symm
  | ⟨2, _⟩ => exact Fin.ext ((Nat.zero_add _).trans (Nat.one_mul _)).symm
  | ⟨3, _⟩ => exact Fin.ext ((Nat.zero_add _).trans (Nat.one_mul _)).symm

/-- After the row `lRow m c j` is stored at row `j`, the row holds `lAll m c`. -/
theorem store_l (c : Dev nD) (j : Fin 8) (f : FVec F S8x128x1 .f32) (i : S8x128x1.Idx) (hi : i ∈ setL j) :
    (lM.access (rectL j) : View sig .tc _ _ _).write (Elt F) f (lRow m c j) Finset.univ i = lAll m c i := by
  have hi' : i ∈ (lM.access (rectL j) : View sig .tc _ _ _).set := by rw [View.set_slice_whole]; exact hi
  obtain ⟨x, -, rfl⟩ := Finset.mem_map.mp hi'
  rw [View.write_emb_of_mem _ _ (Finset.mem_univ x)]
  unfold lAll
  have h0 : ((lM.access (rectL j) : View sig .tc _ _ _).emb x : S8x128x1.Idx) 0 = j := mem_setL.mp hi
  rw [h0]
  refine congrArg (lRow m c j) (funext fun a => ?_)
  match a with
  | ⟨0, _⟩ => exact Subsingleton.elim (α := Fin 1) _ _
  | ⟨1, _⟩ => exact Fin.ext ((Nat.zero_add _).trans (Nat.one_mul _)).symm
  | ⟨2, _⟩ => exact Fin.ext ((Nat.zero_add _).trans (Nat.one_mul _)).symm

/-- A row of numerators transferred leaves the landing row at what was sent. -/
theorem land_num (j : Fin 8) (fd fs : FVec F S8x8x16x128 .f32) (i : S8x8x16x128.Idx) (hi : i ∈ setN j) :
    (rowN rnumM j).view.write (Elt F) fd ((rowN numM j).view.read (Elt F) fs) Finset.univ i = fs i := by
  have h := congrFun ((rowN rnumM j).view.write_read_eq_piecewise (Val := Elt F) fd fs Finset.univ) i
  rw [View.setOn_univ, set_rnum, Finset.piecewise_eq_of_mem _ _ _ hi] at h
  exact h

/-- A row of normalisers likewise. -/
theorem land_l (j : Fin 8) (fd fs : FVec F S8x128x1 .f32) (i : S8x128x1.Idx) (hi : i ∈ setL j) :
    (rowL rlM j).view.write (Elt F) fd ((rowL lM j).view.read (Elt F) fs) Finset.univ i = fs i := by
  have h := congrFun ((rowL rlM j).view.write_read_eq_piecewise (Val := Elt F) fd fs Finset.univ) i
  rw [View.setOn_univ, set_rl, Finset.piecewise_eq_of_mem _ _ _ hi] at h
  exact h

end Cert.Exchange

end
-- ==== Proof.Schedule.lean ====
/-
# `Schedule`: the protocol of the exchange — duties, payloads, what a device owes and the order of its waits

Every cell has one round of one duty. A barrier cell's duty is the peer's entry signal: one unit, and with it the rows of
the peer's landing buffers. A transfer cell's duty is its transfer: the row's credit, and with it the row. What a device
owes before point `n` is the arrival credit of the rows `n, …, 7` at its peer, and before the first point the entry signal
too. Levels: staging and departures 0, the barrier 1, arrivals 2.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The semaphores of the exchange: the barrier, and the DMA semaphores past the seven of the staging buffers. -/
def Own : SemLoc sig → Prop
  | .reg s => s = barS
  | .dma s => 7 ≤ s.val

instance (sm : SemLoc sig) : Decidable (Own sm) := by
  cases sm <;> (unfold Own; infer_instance)

/-- The units of a semaphore's one duty. -/
def units : SemLoc sig → ℕ
  | .reg _ => 1
  | .dma s => if s.val < 23 then NN else NL

theorem units_pos (sm : SemLoc sig) : 0 < units sm := by
  cases sm with
  | reg s => exact Nat.one_pos
  | dma s =>
    show 0 < if s.val < 23 then NN else NL
    by_cases h : s.val < 23
    · rw [if_pos h]; exact NN_pos
    · rw [if_neg h]; exact NL_pos

/-- The payload of a semaphore's one duty on device `c`. -/
def pays (c : Dev nD) : SemLoc sig → sProp 𝕄
  | .reg _ => barPay c
  | .dma s => dmaPay m c ((s.val - 7) / 8) ⟨(s.val - 7) % 8, Nat.mod_lt _ (by decide)⟩

/-- The schedule: one round, of one duty on every cell of the exchange. -/
def sched : Rounds.Schedule (GSem nD τ sig) Unit 𝕄 where
  duties g r := if r = 0 ∧ g.1.2 = .tc ∧ Own g.2 then {()} else ∅
  unitless _ := False
  amount g _ _ := units g.2
  payload g _ _ := pays m g.1.1 g.2
  amount_pos g _ _ _ := by
    rcases g with ⟨_, sm⟩
    exact units_pos sm

instance sched_payload_storable (g : GSem nD τ sig) (r : ℕ) (d : Unit) :
    BI.Storable (upEmb : UEmb _ 𝕄) ((sched (F := F) m).payload g r d) := by
  show BI.Storable upEmb (pays m g.1.1 g.2)
  rcases g with ⟨_, sm⟩
  cases sm with
  | reg s => show BI.Storable upEmb (barPay _); infer_instance
  | dma s => show BI.Storable upEmb (dmaPay _ _ _ _); infer_instance

section Cells
variable (c : Dev nD) (k : Fin 4) (j : Fin 8)

theorem duties_bar : (sched (F := F) m).duties (barCell c) 0 = {()} := by
  dsimp only [sched]; exact if_pos ⟨rfl, rfl, rfl⟩
theorem duties_cell : (sched (F := F) m).duties (cell c k j) 0 = {()} := by
  dsimp only [sched]; exact if_pos ⟨rfl, rfl, show 7 ≤ 7 + 8 * k.val + j.val by omega⟩
/-- After round 0 no cell has a duty. -/
theorem duties_later (g : GSem nD τ sig) : ∀ r, 1 ≤ r → (sched (F := F) m).duties g r = ∅ :=
  fun r hr => by dsimp only [sched]; exact if_neg fun h => by have := h.1; omega

theorem amount_bar (d : Unit) : (sched (F := F) m).amount (barCell c) 0 d = 1 := rfl
theorem amount_cell (d : Unit) : (sched (F := F) m).amount (cell c k j) 0 d = NK k := by
  show units (.dma (dS k j)) = NK k
  unfold units NK dS
  refine if_congr (Iff.intro (fun h => ?_) fun h => ?_) rfl rfl
  · change 7 + 8 * k.val + j.val < 23 at h; omega
  · change 7 + 8 * k.val + j.val < 23; omega

theorem expect_bar : (sched (F := F) m).expect (barCell c) 0 = 1 := by
  unfold Schedule.expect Schedule.amountOf; rw [duties_bar, Finset.sum_singleton, amount_bar]
theorem expect_cell : (sched (F := F) m).expect (cell c k j) 0 = NK k := by
  unfold Schedule.expect Schedule.amountOf; rw [duties_cell, Finset.sum_singleton, amount_cell]

theorem payload_bar (d : Unit) : (sched (F := F) m).payload (barCell c) 0 d = barPay c := rfl
theorem payload_cell (d : Unit) : (sched (F := F) m).payload (cell c k j) 0 d = dmaPay m c k.val j := by
  show dmaPay m c ((7 + 8 * k.val + j.val - 7) / 8) ⟨(7 + 8 * k.val + j.val - 7) % 8, _⟩ = _
  have h1 : (7 + 8 * k.val + j.val - 7) / 8 = k.val := by omega
  have h2 : (⟨(7 + 8 * k.val + j.val - 7) % 8, Nat.mod_lt _ (by decide)⟩ : Fin 8) = j := Fin.ext (by change (7 + 8 * k.val + j.val - 7) % 8 = _; omega)
  rw [h1, h2]

/-- What is left of a cell's round with no duty taken: its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_cell : bigSep ((sched (F := F) m).duties (cell c k j) 0 \ ∅) (fun d => (sched (F := F) m).payload (cell c k j) 0 d) = dmaPay m c k.val j := by
  rw [Finset.sdiff_empty, duties_cell, bigSep_singleton, payload_cell]

end Cells

/-! ## What a device owes -/

/-- The arrivals of row `j` device `c` owes its peer. -/
def rowOwe (c : Dev nD) (j : Fin 8) : CellTallies nD τ sig Unit :=
  tallyAt (cell (peer c) 3 j) () NL + tallyAt (cell (peer c) 1 j) () NN

/-- The rows from `n` on, and before `n`. -/
def ge (n : ℕ) : Finset (Fin 8) := Finset.univ.filter fun j => n ≤ j.val
def lt (n : ℕ) : Finset (Fin 8) := Finset.univ.filter fun j => j.val < n

theorem ge_zero : ge 0 = Finset.univ := by decide
theorem lt_zero : lt 0 = ∅ := by decide
theorem ge_eight : ge 8 = ∅ := by decide
theorem lt_eight : lt 8 = Finset.univ := by decide
theorem ge_step (j : Fin 8) : ge j.val = insert j (ge (j.val + 1)) := by revert j; decide
theorem lt_step (j : Fin 8) : lt (j.val + 1) = insert j (lt j.val) := by revert j; decide
theorem not_mem_ge (j : Fin 8) : j ∉ ge (j.val + 1) := by revert j; decide
theorem not_mem_lt (j : Fin 8) : j ∉ lt j.val := by revert j; decide

/-- What device `c` owes for the rows from `n` on. -/
def rowsOwe (c : Dev nD) (n : ℕ) : CellTallies nD τ sig Unit := ∑ j ∈ ge n, rowOwe c j

theorem rowsOwe_step (c : Dev nD) (j : Fin 8) :
    rowsOwe c j.val = (rowsOwe c (j.val + 1) + tallyAt (cell (peer c) 3 j) () NL) + tallyAt (cell (peer c) 1 j) () NN := by
  unfold rowsOwe
  rw [ge_step j, Finset.sum_insert (not_mem_ge j), rowOwe]
  abel

theorem rowsOwe_eight (c : Dev nD) : rowsOwe c 8 = 0 := by unfold rowsOwe; rw [ge_eight, Finset.sum_empty]

/-- What device `c` owes before point `n`: the rows from `n` on, and before the first point the entry signal. -/
def owedAt (c : Dev nD) (n : ℕ) : CellTallies nD τ sig Unit :=
  rowsOwe c n + if n = 0 then tallyAt (barCell (peer c)) () 1 else 0

theorem owedAt_zero (c : Dev nD) : owedAt c 0 = rowsOwe c 0 + tallyAt (barCell (peer c)) () 1 := rfl
theorem owedAt_succ (c : Dev nD) (n : ℕ) (h : n ≠ 0) : owedAt c n = rowsOwe c n := by unfold owedAt; rw [if_neg h, add_zero]

/-- Only an arrival at the peer is owed for the rows. -/
theorem rowsOwe_pos {c : Dev nD} {n : ℕ} {g : GSem nD τ sig} {u : Unit} (h : 0 < rowsOwe c n g u) :
    ∃ j, g = cell (peer c) 3 j ∨ g = cell (peer c) 1 j := by
  unfold rowsOwe at h
  rw [Finset.sum_apply, Finsupp.finsetSum_apply] at h
  obtain ⟨j, -, hj⟩ := Finset.exists_ne_zero_of_sum_ne_zero (Nat.pos_iff_ne_zero.mp h)
  refine ⟨j, ?_⟩
  by_contra hn
  rw [not_or] at hn
  refine hj ?_
  unfold rowOwe
  rw [Pi.add_apply, Finsupp.add_apply, tallyAt_apply, tallyAt_apply, if_neg (fun h' => hn.1 h'.1), if_neg (fun h' => hn.2 h'.1), add_zero]

theorem owedAt_pos {c : Dev nD} {n : ℕ} {g : GSem nD τ sig} {u : Unit} (h : 0 < owedAt c n g u) :
    g = barCell (peer c) ∨ ∃ j, g = cell (peer c) 3 j ∨ g = cell (peer c) 1 j := by
  by_cases hn : n = 0
  · subst hn
    rw [owedAt_zero, Pi.add_apply, Finsupp.add_apply, tallyAt_apply] at h
    by_cases hg : g = barCell (peer c)
    · exact Or.inl hg
    · rw [if_neg (fun h' => hg h'.1), add_zero] at h
      exact Or.inr (rowsOwe_pos h)
  · rw [owedAt_succ c n hn] at h
    exact Or.inr (rowsOwe_pos h)

/-! ## The levels -/

def L (g : GSem nD τ sig) : Finset Unit := if g.1.2 = .tc then {()} else ∅

/-- Of a semaphore: the barrier 1, an arrival 2, everything else 0. -/
def level : SemLoc sig → ℕ
  | .reg _ => 1
  | .dma s => if s.val < 7 then 0 else if (s.val - 7) / 8 % 2 = 1 then 2 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem level_one (j : Fin 8) : level (.dma (dS 1 j)) = 2 := by revert j; decide
theorem level_three (j : Fin 8) : level (.dma (dS 3 j)) = 2 := by revert j; decide

theorem owedAt_level {c : Dev nD} {n : ℕ} {g : GSem nD τ sig} {u : Unit} (h : 0 < owedAt c n g u) : u ∈ L g ∧ 0 < lv g u := by
  rcases owedAt_pos h with rfl | ⟨j, rfl | rfl⟩
  · exact ⟨Finset.mem_singleton_self _, Nat.one_pos⟩
  · exact ⟨Finset.mem_singleton_self _, by unfold lv; rw [level_three]; decide⟩
  · exact ⟨Finset.mem_singleton_self _, by unfold lv; rw [level_one]; decide⟩

/-- A semaphore of level 0 may be waited on at every point. -/
theorem mayWait_low (c : Dev nD) (n : ℕ) (q : DmaSem sig) (hq : level (.dma q) = 0) :
    (levAts L lv : sProp 𝕄) ⊢ MayWait (c : Thread nD τ) (.dma q) () (owedAt c n) :=
  MayOwe.of_cut (L := L) (lev := lv) 0 (fun p hp => by rw [Finset.mem_singleton.mp hp, L_tc]; exact Finset.mem_singleton_self _)
    (fun g u hg => (owedAt_level hg).1)
    (fun p hp => by rw [Finset.mem_singleton.mp hp]; exact Nat.le_of_eq hq)
    (fun g u hg => (owedAt_level hg).2)

/-- The barrier may be waited on while only arrivals are owed. -/
theorem mayWait_bar (c : Dev nD) : (levAts L lv : sProp 𝕄) ⊢ MayWait (c : Thread nD τ) (.reg barS) () (rowsOwe c 0) :=
  MayOwe.of_cut (L := L) (lev := lv) 1 (fun p hp => by rw [Finset.mem_singleton.mp hp, L_tc]; exact Finset.mem_singleton_self _)
    (fun g u hg => by rcases rowsOwe_pos hg with ⟨j, rfl | rfl⟩ <;> exact Finset.mem_singleton_self _)
    (fun p hp => by rw [Finset.mem_singleton.mp hp]; exact le_refl _)
    (fun g u hg => by
      rcases rowsOwe_pos hg with ⟨j, rfl | rfl⟩
      · unfold lv; rw [level_three]; decide
      · unfold lv; rw [level_one]; decide)

/-! ## The invariants of all cells, and what a device holds of each -/

variable (K : Dev nD × CK → ℕ)

/-- Every cell's invariant, under the names `K`, and that every cell has reached round 0. -/
def records : sProp 𝕄 :=
  iprop((bigSep Finset.univ fun ck : Dev nD × CK => cellInv ER (sched m) (K ck) (kcell ck))
    ∗ bigSep Finset.univ fun ck : Dev nD × CK => reached ER (kcell ck) 0)

instance records_persistent : BI.Persistent (records m K) := by unfold records; infer_instance

theorem inv_at (ck : Dev nD × CK) : records m K ⊢ cellInv ER (sched m) (K ck) (kcell ck) := by
  unfold records; exact sep_elim_left.trans (bigSep_elim (Finset.mem_univ ck))
theorem reached_at (ck : Dev nD × CK) : records m K ⊢ reached ER (kcell ck) 0 := by
  unfold records; exact sep_elim_right.trans (bigSep_elim (Finset.mem_univ ck))

/-- What device `c` waits on row `j` with: its position on the row's four cells, and the credits of the two arrivals. -/
def waiting (c : Dev nD) (j : Fin 8) : sProp 𝕄 :=
  iprop((bigSep Finset.univ fun k : Fin 4 => atPos ER (cell c k j) 0 ∅ 0)
    ∗ cred (tallyAt (cell c 1 j) () NN) ∗ cred (tallyAt (cell c 3 j) () NL))

/-- The tokens of the duties device `c` pays for row `j`: its own departures, its peer's arrivals. -/
def rowToks (c : Dev nD) (j : Fin 8) : sProp 𝕄 :=
  iprop(dutyTok ER (cell c 0 j) 0 () ∗ dutyTok ER (cell (peer c) 1 j) 0 () ∗ dutyTok ER (cell c 2 j) 0 () ∗ dutyTok ER (cell (peer c) 3 j) 0 ())

/-- Row `j` before it is computed: the tokens, and the four rows it goes through at some contents. -/
def fresh (c : Dev nD) (j : Fin 8) : sProp 𝕄 :=
  iprop(rowToks c j ∗ ((∃ f, ownN c j f) ∗ ∃ f, ownL c j f) ∗ ((∃ f, rcvN (peer c) j f) ∗ ∃ f, rcvL (peer c) j f))

/-- Row `j` once sent: the credits of the two departures. -/
def sent (c : Dev nD) (j : Fin 8) : sProp 𝕄 :=
  iprop(cred (tallyAt (cell c 0 j) () NN) ∗ cred (tallyAt (cell c 2 j) () NL))

/-- Row `j` once waited for: its four cells at zero, the two rows sent and the two rows received. -/
def finished (c : Dev nD) (j : Fin 8) : sProp 𝕄 :=
  iprop((bigSep Finset.univ fun k : Fin 4 => semVal (cell c k j) 0)
    ∗ (ownN c j (numAll m c) ∗ ownL c j (lAll m c)) ∗ (rcvN c j (numAll m (peer c)) ∗ rcvL c j (lAll m (peer c))))

/-- The rows of a buffer, all at one contents, are the buffer at it; -/
theorem num_of_rows (c : Dev nD) (f : FVec F S8x8x16x128 .f32) :
    (bigSep Finset.univ fun j => (ownN c j f : sProp 𝕄)) = (((c : Thread nD τ).loc cc0_scratch2) ↦{fullShare} f) := by
  exact (Ring.pointsTo_blocks (Val := Elt F) (q := fullShare) (ℓ := (c : Thread nD τ).loc cc0_scratch2) setN setN_disjoint setN_cover f).symm
theorem l_of_rows (c : Dev nD) (f : FVec F S8x128x1 .f32) :
    (bigSep Finset.univ fun j => (ownL c j f : sProp 𝕄)) = (((c : Thread nD τ).loc cc0_scratch3) ↦{fullShare} f) := by
  exact (Ring.pointsTo_blocks (Val := Elt F) (q := fullShare) (ℓ := (c : Thread nD τ).loc cc0_scratch3) setL setL_disjoint setL_cover f).symm
theorem rnum_of_rows (c : Dev nD) (f : FVec F S8x8x16x128 .f32) :
    (bigSep Finset.univ fun j => (rcvN c j f : sProp 𝕄)) = (((c : Thread nD τ).loc cc0_scratch4) ↦{fullShare} f) := by
  exact (Ring.pointsTo_blocks (Val := Elt F) (q := fullShare) (ℓ := (c : Thread nD τ).loc cc0_scratch4) setN setN_disjoint setN_cover f).symm
theorem rl_of_rows (c : Dev nD) (f : FVec F S8x128x1 .f32) :
    (bigSep Finset.univ fun j => (rcvL c j f : sProp 𝕄)) = (((c : Thread nD τ).loc cc0_scratch5) ↦{fullShare} f) := by
  exact (Ring.pointsTo_blocks (Val := Elt F) (q := fullShare) (ℓ := (c : Thread nD τ).loc cc0_scratch5) setL setL_disjoint setL_cover f).symm

/-- and a buffer at some contents is its rows, each at some contents. -/
theorem rows_of_num (c : Dev nD) : iprop(∃ f : FVec F S8x8x16x128 .f32, ((c : Thread nD τ).loc cc0_scratch2) ↦{fullShare} f)
    ⊢ (bigSep Finset.univ fun j => iprop(∃ f, ownN c j f) : sProp 𝕄) := by
  iintro ⟨%f, H⟩
  have h1 : ∀ j, (ownN c j f : sProp 𝕄) ⊢ iprop(∃ f, ownN c j f) := fun j => by iintro H; iexists f; iexact H
  have h : (bigSep Finset.univ fun j => ownN c j f : sProp 𝕄) ⊢ bigSep Finset.univ fun j => iprop(∃ f, ownN c j f) :=
    bigSep_mono fun j _ => h1 j
  iapply h
  rw [num_of_rows]
  iexact H
theorem rows_of_l (c : Dev nD) : iprop(∃ f : FVec F S8x128x1 .f32, ((c : Thread nD τ).loc cc0_scratch3) ↦{fullShare} f)
    ⊢ (bigSep Finset.univ fun j => iprop(∃ f, ownL c j f) : sProp 𝕄) := by
  iintro ⟨%f, H⟩
  have h1 : ∀ j, (ownL c j f : sProp 𝕄) ⊢ iprop(∃ f, ownL c j f) := fun j => by iintro H; iexists f; iexact H
  have h : (bigSep Finset.univ fun j => ownL c j f : sProp 𝕄) ⊢ bigSep Finset.univ fun j => iprop(∃ f, ownL c j f) :=
    bigSep_mono fun j _ => h1 j
  iapply h
  rw [l_of_rows]
  iexact H
theorem rows_of_rnum (c : Dev nD) : iprop(∃ f : FVec F S8x8x16x128 .f32, ((c : Thread nD τ).loc cc0_scratch4) ↦{fullShare} f)
    ⊢ (bigSep Finset.univ fun j => iprop(∃ f, rcvN c j f) : sProp 𝕄) := by
  iintro ⟨%f, H⟩
  have h1 : ∀ j, (rcvN c j f : sProp 𝕄) ⊢ iprop(∃ f, rcvN c j f) := fun j => by iintro H; iexists f; iexact H
  have h : (bigSep Finset.univ fun j => rcvN c j f : sProp 𝕄) ⊢ bigSep Finset.univ fun j => iprop(∃ f, rcvN c j f) :=
    bigSep_mono fun j _ => h1 j
  iapply h
  rw [rnum_of_rows]
  iexact H
theorem rows_of_rl (c : Dev nD) : iprop(∃ f : FVec F S8x128x1 .f32, ((c : Thread nD τ).loc cc0_scratch5) ↦{fullShare} f)
    ⊢ (bigSep Finset.univ fun j => iprop(∃ f, rcvL c j f) : sProp 𝕄) := by
  iintro ⟨%f, H⟩
  have h1 : ∀ j, (rcvL c j f : sProp 𝕄) ⊢ iprop(∃ f, rcvL c j f) := fun j => by iintro H; iexists f; iexact H
  have h : (bigSep Finset.univ fun j => rcvL c j f : sProp 𝕄) ⊢ bigSep Finset.univ fun j => iprop(∃ f, rcvL c j f) :=
    bigSep_mono fun j _ => h1 j
  iapply h
  rw [rl_of_rows]
  iexact H

/-! ## The state between points, and the proof data -/

/-- What holds on device `c` with the rows before `n` sent and the others not yet computed. -/
def mid (c : Dev nD) (n : ℕ) : sProp 𝕄 :=
  iprop((((c : Thread nD τ).loc cc0_scratch0) ↦{fullShare} (k0_pay2 (F := F)))
    ∗ (((c : Thread nD τ).loc cc0_scratch1) ↦{fullShare} (onesV (F := F)))
    ∗ semVal (barCell c) 0
    ∗ (bigSep Finset.univ fun j => waiting c j)
    ∗ (bigSep (ge n) fun j => fresh c j)
    ∗ (bigSep (lt n) fun j => sent c j))

/-- What device `c` holds when the kernel starts: the entry signal's token, its position and credit on its own barrier, the
    rows' tokens, and its scratch buffers. -/
def entry (c : Dev nD) : sProp 𝕄 :=
  iprop((dutyTok ER (barCell (peer c)) 0 () ∗ atPos ER (barCell c) 0 ∅ 0 ∗ cred (tallyAt (barCell c) () 1))
    ∗ (bigSep Finset.univ fun j => waiting c j)
    ∗ (bigSep Finset.univ fun j => rowToks c j)
    ∗ (∃ f : FVec F S16384x128 .bf16, ((c : Thread nD τ).loc cc0_scratch0) ↦{fullShare} f)
    ∗ (∃ f : FVec F S16384x8 .bf16, ((c : Thread nD τ).loc cc0_scratch1) ↦{fullShare} f)
    ∗ (∃ f : FVec F S8x8x16x128 .f32, ((c : Thread nD τ).loc cc0_scratch2) ↦{fullShare} f)
    ∗ (∃ f : FVec F S8x128x1 .f32, ((c : Thread nD τ).loc cc0_scratch3) ↦{fullShare} f)
    ∗ (∃ f : FVec F S8x8x16x128 .f32, ((c : Thread nD τ).loc cc0_scratch4) ↦{fullShare} f)
    ∗ (∃ f : FVec F S8x128x1 .f32, ((c : Thread nD τ).loc cc0_scratch5) ↦{fullShare} f))

/-- What holds on device `c` at the end: every cell at zero and the scratch buffers. -/
def final (c : Dev nD) : sProp 𝕄 :=
  iprop(semVal (barCell c) 0
    ∗ (bigSep Finset.univ fun j : Fin 8 => bigSep Finset.univ fun k : Fin 4 => semVal (cell c k j) 0)
    ∗ (∃ f : FVec F S16384x128 .bf16, ((c : Thread nD τ).loc cc0_scratch0) ↦{fullShare} f)
    ∗ (∃ f : FVec F S16384x8 .bf16, ((c : Thread nD τ).loc cc0_scratch1) ↦{fullShare} f)
    ∗ (∃ f : FVec F S8x8x16x128 .f32, ((c : Thread nD τ).loc cc0_scratch2) ↦{fullShare} f)
    ∗ (∃ f : FVec F S8x128x1 .f32, ((c : Thread nD τ).loc cc0_scratch3) ↦{fullShare} f)
    ∗ (∃ f : FVec F S8x8x16x128 .f32, ((c : Thread nD τ).loc cc0_scratch4) ↦{fullShare} f)
    ∗ (∃ f : FVec F S8x128x1 .f32, ((c : Thread nD τ).loc cc0_scratch5) ↦{fullShare} f))

/-- What holds on device `c` before point `n`, beside the invariants: what it starts with, what is between two points, and
    after the last point what it ends with. -/
def state (c : Dev nD) (n : ℕ) : sProp 𝕄 :=
  if n = 0 then entry c else if n = 8 then final c else mid c n

/-- The same with the invariants of all cells and the levels. -/
def phi (c : Dev nD) (n : ℕ) : sProp 𝕄 := iprop((∃ K, records m K) ∗ levAts L lv ∗ state c n)

/-- The proof data of the pipeline on device `c`. The three input windows are left as they are; the output window holds the
    result once the last point has stored it. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c
  Φ t := phi m c t.val
  q _ := fullShare
  owed t := owedAt c t.val

end Cert.Exchange

end
-- ==== Proof.Steps.lean ====
/-
# `Steps`: the kernel's memory operations, each as one step from what a device holds

A load or a store of a whole buffer; a row's transfer to the peer; a wait on a cell of the exchange, after which the cell is
closed; and the four waits of a row, for every row at once.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- What must hold for device `c` to run `p` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits it has recorded. -/
def owing (c : Dev nD) (O : CellTallies nD τ sig Unit) : sProp 𝕄 := iprop(∃ W, owes (c : Thread nD τ) O W)

/-- A sequence `p` then `k`, by way of `R`. -/
theorem run_bind {c : Dev nD} {α β : Type} {p : Prog (TpuEff nD τ sig (Elt F) Λ₀ .tc) α} {k : α → Prog (TpuEff nD τ sig (Elt F) Λ₀ .tc) β}
    {P : sProp 𝕄} {Q : β → sProp 𝕄} (R : α → sProp 𝕄) (h₁ : P ⊢ run c p R) (h₂ : ∀ a, R a ⊢ run c (k a) Q) : P ⊢ run c (p >>= k) Q := by
  unfold run
  rw [wp_bind]
  exact h₁.trans (wp_mono _ _ _ h₂)

/-! ## Whole buffers -/

section Whole
variable (c : Dev nD) {s : Shape} {e : EltTy}

theorem read_unit_zero (M : Memref sig .tc .vmem s e) {off : Fin s.rank → ℕ} (hz : off = fun _ => 0) (inb) (f : M.view.ty.Contents (Elt F)) :
    (M.access (Rect.unit off s.size inb)).read (Elt F) f = M.view.read (Elt F) f := by
  subst hz
  funext x
  show _root_.cast _ (f (M.view.emb ((Rect.whole s).emb x))) = _
  rw [Rect.emb_whole_apply]; rfl

/-- A load of a whole buffer yields its contents. -/
theorem load_owns {α : Type} {Q : α → sProp 𝕄} (M : Memref sig .tc .vmem s e) {off : Fin s.rank → ℕ} (hz : off = fun _ => 0) {inb}
    {hl : M.view.LoadsAt (Rect.unit off s.size inb).toLoadRect} {X : s.Idx → Elt F e}
    {k : (s.Idx → Elt F e) → Prog (TpuEff nD τ sig (Elt F) Λ₀ .tc) α} :
    (owns (Ix := Unit) (Name := ℕ) (U := UU) (Lvl := ℕ) (c : Thread nD τ) M fullShare X : sProp 𝕄)
      ⊢ iprop((owns (Ix := Unit) (Name := ℕ) (U := UU) (Lvl := ℕ) (c : Thread nD τ) M fullShare X -∗ run c (k X) Q)
        -∗ run c (.op (.load M (Rect.unit off s.size inb).toLoadRect hl) k) Q) := by
  unfold owns
  iintro ⟨%f, %hf, H⟩ Hk
  iapply (wp_load 𝒱₀ (c : Thread nD τ) none Set.univ (m := M) (View.setOn_subset_set _ _)) $$ H
  iintro H
  have h : M.view.readAt (Elt F) (Rect.unit off s.size inb).toLoadRect f = X := (read_unit_zero M hz inb f).trans hf
  rw [h]
  iapply Hk
  iexists f; isplitr; · (ipureintro; exact hf)
  iexact H

/-- A store of a whole buffer leaves it at what is stored. -/
theorem store_owns {α : Type} {Q : α → sProp 𝕄} (M : Memref sig .tc .vmem s e) {off : Fin s.rank → ℕ} (hz : off = fun _ => 0) {inb}
    {w X : s.Idx → Elt F e} {hx : (M.access (Rect.unit off s.size inb)).Stores Finset.univ} {hm}
    {k : PUnit → Prog (TpuEff nD τ sig (Elt F) Λ₀ .tc) α} :
    (owns (Ix := Unit) (Name := ℕ) (U := UU) (Lvl := ℕ) (c : Thread nD τ) M fullShare X : sProp 𝕄)
      ⊢ iprop((owns (Ix := Unit) (Name := ℕ) (U := UU) (Lvl := ℕ) (c : Thread nD τ) M fullShare w -∗ run c (k ⟨⟩) Q)
        -∗ run c (.op (.store M (Rect.unit off s.size inb) w Finset.univ hx hm) k) Q) := by
  unfold owns
  iintro ⟨%f, %hf, H⟩ Hk
  iapply (wp_store 𝒱₀ (c : Thread nD τ) none Set.univ (m := M) (r := Rect.unit off s.size inb) (Mk := Finset.univ) (S := M.view.set)
    (by subst hz; rw [View.setOn_univ]; exact View.set_slice_subset _ _)) $$ H
  iintro H
  iapply Hk
  iexists (View.write (Elt F) (M.access (Rect.unit off s.size inb)) f w Finset.univ); isplitr
  · ipureintro
    exact (read_unit_zero M hz inb _).symm.trans (View.read_write_univ _ _)
  iexact H

/-- Holding a whole buffer through the memref of it is holding its points-to. -/
theorem owns_ref (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  unfold owns
  simp only [Memref.view_whole, View.read_whole, View.set_whole]
  have h₁ : iprop(∃ f : Buf (Elt F) ((c : Thread nD τ).loc b), ⌜f = X⌝ ∗ (((c : Thread nD τ).loc b) ↦{fullShare} f)) ⊢ (((c : Thread nD τ).loc b) ↦{fullShare} X : sProp 𝕄) := by
    iintro ⟨%f, %hf, H⟩; subst hf; iexact H
  have h₂ : (((c : Thread nD τ).loc b) ↦{fullShare} X : sProp 𝕄) ⊢ iprop(∃ f : Buf (Elt F) ((c : Thread nD τ).loc b), ⌜f = X⌝ ∗ (((c : Thread nD τ).loc b) ↦{fullShare} f)) := by
    iintro H; iexists X; isplitr; · (ipureintro; rfl)
    iexact H
  exact Entails.antisymm h₁ h₂

end Whole

/-! ## A row's store -/

section Row
variable (c : Dev nD) (j : Fin 8)

/-- A load of a row, its contents not used. -/
theorem load_rowN {α : Type} {Q : α → sProp 𝕄} {off : Fin 4 → ℕ} (ho : off = ![j.val, 0, 0, 0]) {inb} {hl}
    {k : (S1x8x16x128.Idx → Elt F .f32) → Prog (TpuEff nD τ sig (Elt F) Λ₀ .tc) α} {x : Prog (TpuEff nD τ sig (Elt F) Λ₀ .tc) α} (hk : ∀ v, k v = x) (f) :
    ownN c j f ⊢ iprop((ownN c j f -∗ run c x Q)
      -∗ run c (.op (.load numM (Rect.unit (s := S8x8x16x128) off S1x8x16x128.size inb).toLoadRect hl) k) Q) := by
  subst ho
  unfold ownN
  iintro H Hk
  iapply (wp_load_rect 𝒱₀ (c : Thread nD τ) none Set.univ (m := numM) (r := rectN j) (S := setN j) (by rw [View.set_slice_whole]; exact Finset.Subset.refl _)) $$ H
  iintro H
  rw [hk]
  iapply Hk; iexact H

theorem load_rowL {α : Type} {Q : α → sProp 𝕄} {off : Fin 3 → ℕ} (ho : off = ![j.val, 0, 0]) {inb} {hl}
    {k : (S1x128x1.Idx → Elt F .f32) → Prog (TpuEff nD τ sig (Elt F) Λ₀ .tc) α} {x : Prog (TpuEff nD τ sig (Elt F) Λ₀ .tc) α} (hk : ∀ v, k v = x) (f) :
    ownL c j f ⊢ iprop((ownL c j f -∗ run c x Q)
      -∗ run c (.op (.load lM (Rect.unit (s := S8x128x1) off S1x128x1.size inb).toLoadRect hl) k) Q) := by
  subst ho
  unfold ownL
  iintro H Hk
  iapply (wp_load_rect 𝒱₀ (c : Thread nD τ) none Set.univ (m := lM) (r := rectL j) (S := setL j) (by rw [View.set_slice_whole]; exact Finset.Subset.refl _)) $$ H
  iintro H
  rw [hk]
  iapply Hk; iexact H

set_option maxHeartbeats 1600000 in
/-- The store of the numerators computed for example `j`, -/
theorem store_rowN {α : Type} {Q : α → sProp 𝕄} {off : Fin 4 → ℕ} (ho : off = ![j.val, 0, 0, 0]) {inb : ∀ a, off a + S1x8x16x128.size a ≤ S8x8x16x128.size a}
    {hx : (numM.access (Rect.unit (s := S8x8x16x128) off S1x8x16x128.size inb)).Stores Finset.univ} {hm}
    {k : PUnit → Prog (TpuEff nD τ sig (Elt F) Λ₀ .tc) α} (f) :
    ownN c j f ⊢ iprop((ownN c j (numAll m c) -∗ run c (k ⟨⟩) Q)
      -∗ run c (.op (.store numM (Rect.unit (s := S8x8x16x128) off S1x8x16x128.size inb) (numRow m c j) Finset.univ hx hm) k) Q) := by
  subst ho
  unfold ownN
  iintro H Hk
  iapply (wp_store 𝒱₀ (c : Thread nD τ) none Set.univ (m := numM) (r := rectN j) (Mk := Finset.univ) (S := setN j)
    (by rw [View.setOn_univ, View.set_slice_whole]; exact Finset.Subset.refl _)) $$ H
  iintro H
  iapply Hk
  iapply (Entails.of_eq (pointsTo_congr fun i hi => store_num m c j f i hi)); iexact H

/-- and of the normalisers. -/
theorem store_rowL {α : Type} {Q : α → sProp 𝕄} {off : Fin 3 → ℕ} (ho : off = ![j.val, 0, 0]) {inb : ∀ a, off a + S1x128x1.size a ≤ S8x128x1.size a}
    {hx : (lM.access (Rect.unit (s := S8x128x1) off S1x128x1.size inb)).Stores Finset.univ} {hm}
    {k : PUnit → Prog (TpuEff nD τ sig (Elt F) Λ₀ .tc) α} (f) :
    ownL c j f ⊢ iprop((ownL c j (lAll m c) -∗ run c (k ⟨⟩) Q)
      -∗ run c (.op (.store lM (Rect.unit (s := S8x128x1) off S1x128x1.size inb) (lRow m c j) Finset.univ hx hm) k) Q) := by
  subst ho
  unfold ownL
  iintro H Hk
  iapply (wp_store 𝒱₀ (c : Thread nD τ) none Set.univ (m := lM) (r := rectL j) (Mk := Finset.univ) (S := setL j)
    (by rw [View.setOn_univ, View.set_slice_whole]; exact Finset.Subset.refl _)) $$ H
  iintro H
  iapply Hk
  iapply (Entails.of_eq (pointsTo_congr fun i hi => store_l m c j f i hi)); iexact H

/-! ## A row's transfer -/

variable (K : Dev nD × CK → ℕ)

/-- Entry `off` of an array of eight semaphores, as the kernel names it. -/
abbrev semAt (a : DmaSems sig S8) (off : Fin 1 → ℕ) (inb : ∀ a, off a + S1.size a ≤ S8.size a) : DmaSem sig :=
  ((a.slice (Rect.unit (s := S8) off S1.size inb)).squeeze S_ squeezes_S1_S_).sem

theorem semAt_val (base : ℕ) (h : base + S8.numel ≤ 39) {off : Fin 1 → ℕ} (ho : off = ![j.val]) (inb) :
    (semAt (SemArray.consecutive base S8 h) off inb : Fin 39).val = base + j.val := by
  subst ho
  show base + (S8.rowMajor _).val = base + j.val
  rw [Shape.rowMajor_val_one]
  generalize (Shape.reshapeEquiv (s := S1) (s' := S_) squeezes_S1_S_.numel_eq fun i => i.elim0) = x
  have h0 : (x 0).val < 1 := (x 0).isLt
  show base + (j.val + 1 * (x 0).val) = base + j.val
  omega

/-- Entry `j` of each of the four arrays is the cell of row `j` of that kind. -/
theorem sem0 {off : Fin 1 → ℕ} (ho : off = ![j.val]) (inb) : semAt cc0_scratch6 off inb = dS 0 j := Fin.ext (semAt_val j 7 hcc0_scratch6 ho inb)
theorem sem1 {off : Fin 1 → ℕ} (ho : off = ![j.val]) (inb) : semAt cc0_scratch7 off inb = dS 1 j := Fin.ext (semAt_val j 15 hcc0_scratch7 ho inb)
theorem sem2 {off : Fin 1 → ℕ} (ho : off = ![j.val]) (inb) : semAt cc0_scratch8 off inb = dS 2 j := Fin.ext (semAt_val j 23 hcc0_scratch8 ho inb)
theorem sem3 {off : Fin 1 → ℕ} (ho : off = ![j.val]) (inb) : semAt cc0_scratch9 off inb = dS 3 j := Fin.ext (semAt_val j 31 hcc0_scratch9 ho inb)

theorem credit_rnum (j : Fin 8) : (rowN rnumM j).view.dmaCredit = NN := rfl
theorem credit_num (j : Fin 8) : (rowN numM j).view.dmaCredit = NN := rfl
theorem credit_rl (j : Fin 8) : (rowL rlM j).view.dmaCredit = NL := rfl
theorem credit_l (j : Fin 8) : (rowL lM j).view.dmaCredit = NL := rfl

/-- A row as a transfer names it is the row. -/
theorem own_num (f) : (((rowN numM j).view.loc (c : Thread nD τ)) ↦[(rowN numM j).view.set]{fullShare} f : sProp 𝕄) = ownN c j f := by rw [set_num]; rfl
theorem own_rnum (f) : (((rowN rnumM j).view.loc (c : Thread nD τ)) ↦[(rowN rnumM j).view.set]{fullShare} f : sProp 𝕄) = rcvN c j f := by rw [set_rnum]; rfl
theorem own_l (f) : (((rowL lM j).view.loc (c : Thread nD τ)) ↦[(rowL lM j).view.set]{fullShare} f : sProp 𝕄) = ownL c j f := by rw [set_l]; rfl
theorem own_rl (f) : (((rowL rlM j).view.loc (c : Thread nD τ)) ↦[(rowL rlM j).view.set]{fullShare} f : sProp 𝕄) = rcvL c j f := by rw [set_rl]; rfl

/-- The transfer of row `j` of the numerators to the peer `n`: the row and the peer's landing row go, the credit of the
    departure comes, and the arrival is owed no more. -/
theorem send_num {α : Type} {Q : α → sProp 𝕄} {n : Dev nD} (hn : n = peer c) {q₀ q₁ : DmaSem sig} (h₀ : q₀ = dS 0 j) (h₁ : q₁ = dS 1 j)
    {src : Memref sig .tc .vmem S8x16x128 .f32} (hsrc' : src = rowN numM j) {dst : Memref sig .tc .vmem S8x16x128 .f32} (hdst' : dst = rowN rnumM j)
    {O : CellTallies nD τ sig Unit} {hsc hsrc hdst hsem} {k : PUnit → Prog (TpuEff nD τ sig (Elt F) Λ₀ .tc) α} (fd) :
    iprop(records m K ∗ ownN c j (numAll m c) ∗ rcvN (peer c) j fd ∗ owing c (O + tallyAt (cell (peer c) 1 j) () NN)
        ∗ dutyTok ER (cell c 0 j) 0 () ∗ dutyTok ER (cell (peer c) 1 j) 0 ())
      ⊢ iprop(((cred (tallyAt (cell c 0 j) () NN) ∗ owing c O) -∗ run c (k ⟨⟩) Q)
          -∗ run c (.op (.enqueueDma src (.remote (Dev.tc n : Thread nD τ) dst (.dma q₀) hsc) (.dma q₁) hsrc hdst hsem) k) Q) := by
  subst hn h₀ h₁ hsrc' hdst'
  unfold owing
  iintro ⟨#HR, Hs, Hd, ⟨%W, HO⟩, Ht0, Ht1⟩ Hk
  iapply (Rounds.wp_send_pointsTo 𝒱₀ ER (sched m) (c : Thread nD τ) none (c' := (peer c : Thread nD τ)) (src := rowN numM j) (dst := rowN rnumM j) (q := fullShare)
    (fs := numAll m c) (fd := fd) (κ₁ := K (c, .inr (0, j))) (κ₂ := K (peer c, .inr (1, j))) (r₁ := 0) (r₂ := 0) (d₁ := ()) (d₂ := ()) (W := W)
    (by rw [show ((c : Thread nD τ), SemLoc.dma (dS 0 j)) = cell c 0 j from rfl, duties_cell]; exact Finset.mem_singleton_self _)
    (by rw [show ((peer c : Thread nD τ), SemLoc.dma (dS 1 j)) = cell (peer c) 1 j from rfl, duties_cell]; exact Finset.mem_singleton_self _)
    () () NN rfl (amount_cell m c 0 j ()) (amount_cell m (peer c) 1 j ()) O rfl
    (by rw [set_num]; exact Entails.of_eq (payload_cell m c 0 j ()).symm)
    (by
      rw [set_rnum]
      refine (Entails.of_eq (pointsTo_congr fun i hi => land_num j fd (numAll m c) i hi)).trans ?_
      exact Entails.of_eq ((payload_cell m (peer c) 1 j ()).trans (by unfold dmaPay; rw [peer_peer]; rfl)).symm)) $$ [Hs Hd HO Ht0 Ht1]
  · isplitr; · iapply (inv_at m K (c, .inr (0, j))); iexact HR
    isplitr; · iapply (inv_at m K (peer c, .inr (1, j))); iexact HR
    isplitl [Hs]; · rw [own_num]; iexact Hs
    isplitl [Hd]; · rw [own_rnum]; iexact Hd
    isplitl [HO]; · iexact HO
    isplitl [Ht0]; · iexact Ht0
    isplitr; · iapply (reached_at m K (c, .inr (0, j))); iexact HR
    isplitl [Ht1]; · iexact Ht1
    iapply (reached_at m K (peer c, .inr (1, j))); iexact HR
  iintro ⟨Hc, HO⟩
  iapply Hk
  isplitl [Hc]; · iexact Hc
  iexists W; iexact HO

/-- The transfer of row `j` of the normalisers to the peer `n`: the row and the peer's landing row go, the credit of the
    departure comes, and the arrival is owed no more. -/
theorem send_l {α : Type} {Q : α → sProp 𝕄} {n : Dev nD} (hn : n = peer c) {q₀ q₁ : DmaSem sig} (h₀ : q₀ = dS 2 j) (h₁ : q₁ = dS 3 j)
    {src : Memref sig .tc .vmem S128x1 .f32} (hsrc' : src = rowL lM j) {dst : Memref sig .tc .vmem S128x1 .f32} (hdst' : dst = rowL rlM j)
    {O : CellTallies nD τ sig Unit} {hsc hsrc hdst hsem} {k : PUnit → Prog (TpuEff nD τ sig (Elt F) Λ₀ .tc) α} (fd) :
    iprop(records m K ∗ ownL c j (lAll m c) ∗ rcvL (peer c) j fd ∗ owing c (O + tallyAt (cell (peer c) 3 j) () NL)
        ∗ dutyTok ER (cell c 2 j) 0 () ∗ dutyTok ER (cell (peer c) 3 j) 0 ())
      ⊢ iprop(((cred (tallyAt (cell c 2 j) () NL) ∗ owing c O) -∗ run c (k ⟨⟩) Q)
          -∗ run c (.op (.enqueueDma src (.remote (Dev.tc n : Thread nD τ) dst (.dma q₀) hsc) (.dma q₁) hsrc hdst hsem) k) Q) := by
  subst hn h₀ h₁ hsrc' hdst'
  unfold owing
  iintro ⟨#HR, Hs, Hd, ⟨%W, HO⟩, Ht0, Ht1⟩ Hk
  iapply (Rounds.wp_send_pointsTo 𝒱₀ ER (sched m) (c : Thread nD τ) none (c' := (peer c : Thread nD τ)) (src := rowL lM j) (dst := rowL rlM j) (q := fullShare)
    (fs := lAll m c) (fd := fd) (κ₁ := K (c, .inr (2, j))) (κ₂ := K (peer c, .inr (3, j))) (r₁ := 0) (r₂ := 0) (d₁ := ()) (d₂ := ()) (W := W)
    (by rw [show ((c : Thread nD τ), SemLoc.dma (dS 2 j)) = cell c 2 j from rfl, duties_cell]; exact Finset.mem_singleton_self _)
    (by rw [show ((peer c : Thread nD τ), SemLoc.dma (dS 3 j)) = cell (peer c) 3 j from rfl, duties_cell]; exact Finset.mem_singleton_self _)
    () () NL rfl (amount_cell m c 2 j ()) (amount_cell m (peer c) 3 j ()) O rfl
    (by rw [set_l]; exact Entails.of_eq (payload_cell m c 2 j ()).symm)
    (by
      rw [set_rl]
      refine (Entails.of_eq (pointsTo_congr fun i hi => land_l j fd (lAll m c) i hi)).trans ?_
      exact Entails.of_eq ((payload_cell m (peer c) 3 j ()).trans (by unfold dmaPay; rw [peer_peer]; rfl)).symm)) $$ [Hs Hd HO Ht0 Ht1]
  · isplitr; · iapply (inv_at m K (c, .inr (2, j))); iexact HR
    isplitr; · iapply (inv_at m K (peer c, .inr (3, j))); iexact HR
    isplitl [Hs]; · rw [own_l]; iexact Hs
    isplitl [Hd]; · rw [own_rl]; iexact Hd
    isplitl [HO]; · iexact HO
    isplitl [Ht0]; · iexact Ht0
    isplitr; · iapply (reached_at m K (c, .inr (2, j))); iexact HR
    isplitl [Ht1]; · iexact Ht1
    iapply (reached_at m K (peer c, .inr (3, j))); iexact HR
  iintro ⟨Hc, HO⟩
  iapply Hk
  isplitl [Hc]; · iexact Hc
  iexists W; iexact HO

/-! ## The waits -/

/-- A wait on the cell of row `j` of kind `k`, nothing owed: the row comes back, and the cell is closed at zero. -/
theorem wait_cell {α : Type} {Q : α → sProp 𝕄} (k : Fin 4) {q : DmaSem sig} (hq : q = dS k j) {s : Shape} {e : EltTy}
    {src dst : Memref sig .tc .vmem s e} {hsrc hdst} (hcr : dst.view.dmaCredit = NK k) {X : sProp 𝕄} (hX : dmaPay m c k.val j = X)
    {p : PUnit → Prog (TpuEff nD τ sig (Elt F) Λ₀ .tc) α} :
    iprop(records m K ∗ cred (tallyAt (cell c k j) () (NK k)) ∗ owing c 0 ∗ atPos ER (cell c k j) 0 ∅ 0)
      ⊢ iprop(((owing c 0 ∗ semVal (cell c k j) 0 ∗ X) -∗ run c (p ⟨⟩) Q)
          -∗ run c (.op (.waitDma2 q src dst hsrc hdst) p) Q) := by
  subst hq
  subst hX
  rw [← hcr]
  unfold owing
  iintro ⟨#HR, Hc, ⟨%W, HO⟩, Hat⟩ Hk
  iapply (Rounds.wp_wait_rest_token 𝒱₀ ER (sched m) (c : Thread nD τ) none (κ := K (c, .inr (k, j)))
      (wpE_waitDma2_eq 𝒱₀ (c : Thread nD τ) none Set.univ) (Set.mem_univ _) () (O := 0) (W := W) (R := 0) (m := 0) (T := ∅)
      (by rw [Nat.zero_add, hcr]; exact (expect_cell m c k j).symm)) $$ [Hc HO Hat]
  · isplitr; · iapply (inv_at m K (c, .inr (k, j))); iexact HR
    isplitl [Hc]; · iexact Hc
    isplitl [HO]; · iexact HO
    isplitr; · rw [MayWait_zero]; iempintro
    iexact Hat
  iintro ⟨HO, Hat, -, Hpay⟩
  ihave Hpay := (Entails.of_eq (rest_cell m c k j)) $$ Hpay
  imod (Rounds.cell_close ER (sched m) (Set.mem_univ (K (c, .inr (k, j)))) (fun h => h) (R := 0 + 1) (duties_later m (cell c k j))) $$ [Hat] with Hz
  · isplitr; · iapply (inv_at m K (c, .inr (k, j))); iexact HR
    iexact Hat
  iapply Hk
  isplitl [HO]; · iexists _; iexact HO
  isplitl [Hz]; · iexact Hz
  iexact Hpay

theorem inbS (j : Fin 8) (r : Fin 1) : (![j.val] : Fin 1 → ℕ) r + S1.size r ≤ S8.size r := by
  have := j.isLt
  fin_cases r; show j.val + 1 ≤ 8; omega

/-- The four waits of row `j`, and then `p`. -/
def waitRow {α : Type} (j : Fin 8) (p : Prog (TpuEff nD τ sig (Elt F) Λ₀ .tc) α) : Prog (TpuEff nD τ sig (Elt F) Λ₀ .tc) α :=
  .op (.waitDma2 (semAt cc0_scratch6 ![j.val] (inbS j)) (rowN rnumM j) (rowN numM j) ((View.wordExact_bits rfl).reshape _ _) ((View.wordExact_bits rfl).reshape _ _)) fun _ =>
  .op (.waitDma2 (semAt cc0_scratch8 ![j.val] (inbS j)) (rowL rlM j) (rowL lM j) ((View.wordExact_bits rfl).reshape _ _) ((View.wordExact_bits rfl).reshape _ _)) fun _ =>
  .op (.waitDma2 (semAt cc0_scratch7 ![j.val] (inbS j)) (rowN numM j) (rowN rnumM j) ((View.wordExact_bits rfl).reshape _ _) ((View.wordExact_bits rfl).reshape _ _)) fun _ =>
  .op (.waitDma2 (semAt cc0_scratch9 ![j.val] (inbS j)) (rowL lM j) (rowL rlM j) ((View.wordExact_bits rfl).reshape _ _) ((View.wordExact_bits rfl).reshape _ _)) fun _ => p

theorem bigSep_kinds (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

/-- They turn a row awaited into a row finished. -/
theorem wait_row {α : Type} {Q : α → sProp 𝕄} {p : Prog (TpuEff nD τ sig (Elt F) Λ₀ .tc) α} :
    iprop(records m K ∗ owing c 0 ∗ waiting c j ∗ sent c j)
      ⊢ iprop(((owing c 0 ∗ finished m c j) -∗ run c p Q) -∗ run c (waitRow j p) Q) := by
  unfold waiting sent finished waitRow
  rw [bigSep_kinds, bigSep_kinds]
  iintro ⟨#HR, HO, ⟨⟨Hat0, Hat1, Hat2, Hat3⟩, Hc1, Hc3⟩, Hc0, Hc2⟩ Hk
  iapply (wait_cell m c j K 0 (sem0 j rfl _) (credit_num j) (X := ownN c j (numAll m c)) rfl) $$ [HO Hat0 Hc0]
  · isplitr; · iexact HR
    isplitl [Hc0]; · iexact Hc0
    isplitl [HO]; · iexact HO
    iexact Hat0
  iintro ⟨HO, Hz0, Hp0⟩
  iapply (wait_cell m c j K 2 (sem2 j rfl _) (credit_l j) (X := ownL c j (lAll m c)) rfl) $$ [HO Hat2 Hc2]
  · isplitr; · iexact HR
    isplitl [Hc2]; · iexact Hc2
    isplitl [HO]; · iexact HO
    iexact Hat2
  iintro ⟨HO, Hz2, Hp2⟩
  iapply (wait_cell m c j K 1 (sem1 j rfl _) (credit_rnum j) (X := rcvN c j (numAll m (peer c))) rfl) $$ [HO Hat1 Hc1]
  · isplitr; · iexact HR
    isplitl [Hc1]; · iexact Hc1
    isplitl [HO]; · iexact HO
    iexact Hat1
  iintro ⟨HO, Hz1, Hp1⟩
  iapply (wait_cell m c j K 3 (sem3 j rfl _) (credit_rl j) (X := rcvL c j (lAll m (peer c))) rfl) $$ [HO Hat3 Hc3]
  · isplitr; · iexact HR
    isplitl [Hc3]; · iexact Hc3
    isplitl [HO]; · iexact HO
    iexact Hat3
  iintro ⟨HO, Hz3, Hp3⟩
  iapply Hk
  isplitl [HO]; · iexact HO
  isplitl [Hz0 Hz1 Hz2 Hz3]
  · isplitl [Hz0]; · iexact Hz0
    isplitl [Hz1]; · iexact Hz1
    isplitl [Hz2]; · iexact Hz2
    iexact Hz3
  isplitl [Hp0 Hp2]
  · isplitl [Hp0]; · iexact Hp0
    iexact Hp2
  isplitl [Hp1]; · iexact Hp1
  iexact Hp3

end Row

theorem bigSep_cons {α : Type} [DecidableEq α] {a : α} {S : Finset α} (h : a ∉ S) (Φ : α → sProp 𝕄) : bigSep (insert a S) Φ = iprop(Φ a ∗ bigSep S Φ) :=
  bigSep_insert h

/-- The waits of the rows of a list, one row after the other. -/
theorem wait_rows (c : Dev nD) (K : Dev nD × CK → ℕ) {α : Type} {Q : α → sProp 𝕄} {p : Prog (TpuEff nD τ sig (Elt F) Λ₀ .tc) α} (l : List (Fin 8)) (hl : l.Nodup) :
    iprop(records m K ∗ owing c 0 ∗ bigSep l.toFinset fun j => iprop(waiting c j ∗ sent c j))
      ⊢ iprop(((owing c 0 ∗ bigSep l.toFinset fun j => finished m c j) -∗ run c p Q) -∗ run c (l.foldr waitRow p) Q) := by
  induction l with
  | nil =>
    iintro ⟨-, HO, H⟩ Hk
    iapply Hk
    isplitl [HO]; · iexact HO
    iexact H
  | cons j l ih =>
    obtain ⟨hj, hl⟩ := List.nodup_cons.mp hl
    rw [List.toFinset_cons, bigSep_cons (by rwa [List.mem_toFinset]), bigSep_cons (by rwa [List.mem_toFinset]), List.foldr_cons]
    iintro ⟨#HR, HO, ⟨⟨Hw, Hs⟩, Hrest⟩⟩ Hk
    iapply (wait_row m c j K) $$ [HO Hw Hs]
    · isplitr; · iexact HR
      isplitl [HO]; · iexact HO
      isplitl [Hw]; · iexact Hw
      iexact Hs
    iintro ⟨HO, Hf⟩
    iapply (ih hl) $$ [HO Hrest]
    · isplitr; · iexact HR
      isplitl [HO]; · iexact HO
      iexact Hrest
    iintro ⟨HO, Hfs⟩
    iapply Hk
    isplitl [HO]; · iexact HO
    isplitl [Hf]; · iexact Hf
    iexact Hfs

end Cert.Exchange

end
-- ==== Proof.Body.lean ====
/-
# `Body`: one grid point of the kernel

The body run at a symbolic point `j`. At the first point it fills the two constant buffers, signals its peer and waits for
the peer's signal; at every point it computes a row of numerators and a row of normalisers and sends both to the peer; at
the last point it waits for every row, adds what has arrived to its own and stores the quotient.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem cond1_iff : ∀ i : grid0.Coords, k0_cond1 i = 1#1 ↔ (i 0).val = 0 := by decide +kernel
theorem cond2_iff : ∀ i : grid0.Coords, k0_cond2 i = 1#1 ↔ (i 0).val = 7 := by decide +kernel

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

section Parts

variable (i : grid0.Coords) (M1 : Memref sig .tc .vmem S1x8x16x128 .f32) (h1 : M1.IsWhole) (M2 : Memref sig .tc .vmem S1x1024x16x128 .f32) (h2 : M2.IsWhole)
  (M3 : Memref sig .tc .vmem S1x1024x16x128 .f32) (h3 : M3.IsWhole) (M4 : Memref sig .tc .vmem S8x8x16x128 .f32) (h4 : M4.IsWhole)

/-- The printed body's first part, -/
abbrev part14 := k0_part14 (F := F) i M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
/-- its second, -/
abbrev part15 := k0_part15 (F := F) i M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
/-- and the part with the waits. -/
abbrev part13 := k0_part13 (F := F) i M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
/-- The whole body. -/
abbrev body := cc0_body (F := F) i M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9

/-- The four loads that follow the waits. -/
def sums : Prog (TpuEff nD τ sig (Elt F) Λ₀ .tc) (Σ' (v367 : FVec F S8x128x128 .f32), FVec F S8x128x1 .f32) :=
  .op (.load numM (Rect.unit (s := S8x8x16x128) ![0, 0, 0, 0] S8x8x16x128.size inb_S8x8x16x128_S8x8x16x128_0_0_0_0).toLoadRect (View.loadsAt_vmem h_S8x8x16x128)) fun v364 =>
  .op (.load rnumM (Rect.unit (s := S8x8x16x128) ![0, 0, 0, 0] S8x8x16x128.size inb_S8x8x16x128_S8x8x16x128_0_0_0_0).toLoadRect (View.loadsAt_vmem h_S8x8x16x128)) fun v365 =>
  .op (.load lM (Rect.unit (s := S8x128x1) ![0, 0, 0] S8x128x1.size inb_S8x128x1_S8x128x1_0_0_0).toLoadRect (View.loadsAt_vmem h_S8x128x1)) fun v368 =>
  .op (.load rlM (Rect.unit (s := S8x128x1) ![0, 0, 0] S8x128x1.size inb_S8x128x1_S8x128x1_0_0_0).toLoadRect (View.loadsAt_vmem h_S8x128x1)) fun v369 =>
  .ret ⟨k0_pay3 v364 v365, k0_pay4 v368 v369⟩

/-- The waiting part is the waits of the eight rows in order, and then the loads. -/
theorem part13_eq (v5 v8 v9 : BitVec 32) :
    part13 i M1 h1 M2 h2 M3 h3 M4 h4 v5 v8 v9 = [0, 1, 2, 3, 4, 5, 6, 7].foldr waitRow (sums (F := F)) := rfl

/-- A buffer held whole at contents `X`. -/
abbrev holds (c : Dev nD) {s : Shape} {e : EltTy} (M : Memref sig .tc .vmem s e) (X : s.Idx → Elt F e) : sProp 𝕄 :=
  owns (Ix := Unit) (Name := ℕ) (U := UU) (Lvl := ℕ) (c : Thread nD τ) M fullShare X

/-- What device `c` holds of the three input windows at point `j`. -/
def inputs (c : Dev nD) (j : Fin 8) : sProp 𝕄 :=
  iprop(holds c M1 (iblk m c 0 (pt j)) ∗ holds c M2 (iblk m c 1 (pt j)) ∗ holds c M3 (iblk m c 2 (pt j)))

theorem run_ret {c : Dev nD} {α : Type} {Q : α → sProp 𝕄} (a : α) : Q a ⊢ run c (.ret a) Q := by
  unfold run
  rw [wp_ret]
  iintro H
  imodintro
  iexact H

/-- A run's postcondition weakened by a wand. -/
theorem run_post {c : Dev nD} {α : Type} {p : Prog (TpuEff nD τ sig (Elt F) Λ₀ .tc) α} {P : sProp 𝕄} {Q R : α → sProp 𝕄} (h : P ⊢ run c p R) :
    P ⊢ iprop((∀ a, R a -∗ Q a) -∗ run c p Q) := h.trans (wp_wand _ _ _)

/-- `p` and then `k`, when `P` runs `p` to `R`. -/
theorem run_seq {c : Dev nD} {α β : Type} {p : Prog (TpuEff nD τ sig (Elt F) Λ₀ .tc) α} {k : α → Prog (TpuEff nD τ sig (Elt F) Λ₀ .tc) β}
    {P : sProp 𝕄} {Q : β → sProp 𝕄} (R : α → sProp 𝕄) (h : P ⊢ run c p R) : P ⊢ iprop((∀ a, R a -∗ run c (k a) Q) -∗ run c (p >>= k) Q) := by
  unfold run
  rw [wp_bind]
  exact h.trans (wp_wand _ _ _)

/-! ## The first point's opening -/

/-- The two constant buffers filled, the signal to the peer and the wait for its signal, and then `p`. -/
def opening (c : Dev nD) (h0 : k0_cond1 i = 1#1) {α : Type} (p : Prog (TpuEff nD τ sig (Elt F) Λ₀ .tc) α) : Prog (TpuEff nD τ sig (Elt F) Λ₀ .tc) α :=
  .op (.load penM (Rect.unit (s := S16384x128) ![0, 0] S16384x128.size inb_S16384x128_S16384x128_0_0).toLoadRect (View.loadsAt_vmem h_S16384x128)) fun _ =>
  .op (.store penM (Rect.unit (s := S16384x128) ![0, 0] S16384x128.size inb_S16384x128_S16384x128_0_0) (k0_pay2 (F := F)) Finset.univ
    (View.stores_vmem h_S16384x128 ((Memref.isWhole_whole _).storeExact_slice rfl _ packedbf16_S16384x128_S16384x128_0_0) (fun _ => rfl)) (.inl rfl)) fun _ =>
  .op (.load onesM (Rect.unit (s := S16384x8) ![0, 0] S16384x8.size inb_S16384x8_S16384x8_0_0).toLoadRect (View.loadsAt_vmem h_S16384x8)) fun _ =>
  .op (.store onesM (Rect.unit (s := S16384x8) ![0, 0] S16384x8.size inb_S16384x8_S16384x8_0_0) (onesV (F := F)) Finset.univ
    (View.stores_vmem h_S16384x8 ((Memref.isWhole_whole _).storeExact_slice rfl _ packedbf16_S16384x8_S16384x8_0_0) (fun _ => rfl)) (.inl rfl)) fun _ =>
  .op (.semSignal (Dev.tc (⟨k0_dev1 c, k0_dev1_lt i c h0⟩ : Dev nD)) barS (1#32).toInt) fun _ =>
  .op (.semWait barS (1#32).toInt) fun _ => p

theorem fresh_eq (c : Dev nD) : (bigSep Finset.univ fun j => (fresh c j : sProp 𝕄))
    = iprop((bigSep Finset.univ fun j => rowToks c j)
      ∗ ((bigSep Finset.univ fun j => iprop(∃ f, ownN c j f)) ∗ bigSep Finset.univ fun j => iprop(∃ f, ownL c j f))
      ∗ barPay c) := by
  unfold fresh barPay
  rw [bigSep_sep', bigSep_sep', bigSep_sep']

/-- The opening takes what a device starts with to what it holds before the first row: its landing rows go to the peer with
    the signal, and the peer's come with the peer's signal. -/
theorem opens (c : Dev nD) (K : Dev nD × CK → ℕ) (h0 : k0_cond1 i = 1#1) {α : Type} {Q : α → sProp 𝕄} {p : Prog (TpuEff nD τ sig (Elt F) Λ₀ .tc) α} :
    iprop(records m K ∗ levAts L lv ∗ entry c ∗ owing c (owedAt c 0))
      ⊢ iprop(((mid c 0 ∗ owing c (rowsOwe c 0)) -∗ run c p Q) -∗ run c (opening i c h0 p) Q) := by
  unfold entry opening
  rw [owedAt_zero, dev1_eq c]
  unfold owing
  iintro ⟨#HR, #Hlev, ⟨⟨Htok, Hat, Hcr⟩, Hw, Htoks, ⟨%f0, H0⟩, ⟨%f1, H1⟩, H2, H3, H4, H5⟩, %W, HO⟩ Hk
  ihave H0 := (Entails.of_eq (owns_ref c cc0_scratch0 f0).symm) $$ H0
  ihave H1 := (Entails.of_eq (owns_ref c cc0_scratch1 f1).symm) $$ H1
  iapply (load_owns c penM zero2) $$ H0
  iintro H0
  iapply (store_owns c penM zero2) $$ H0
  iintro H0
  iapply (load_owns c onesM zero2) $$ H1
  iintro H1
  iapply (store_owns c onesM zero2) $$ H1
  iintro H1
  ihave H4 := (rows_of_rnum c) $$ H4
  ihave H5 := (rows_of_rl c) $$ H5
  iapply (Rounds.wp_signal 𝒱₀ ER (sched m) (c : Thread nD τ) none (dst := (peer c : Thread nD τ)) (κ := K (peer c, .inl ()))
      (d := ()) (by rw [duties_bar]; exact Finset.mem_singleton_self _) ((amount_bar m (peer c) ()).trans (by decide)) () (rowsOwe c 0) rfl)
    $$ [HO Htok H4 H5]
  · isplitr; · iapply (inv_at m K (peer c, .inl ())); iexact HR
    isplitl [HO]; · iexact HO
    isplitl [Htok]; · iexact Htok
    isplitl [H4 H5]
    · rw [payload_bar]; unfold barPay; rw [peer_peer, bigSep_sep']
      isplitl [H4]; · iexact H4
      iexact H5
    iapply (reached_at m K (peer c, .inl ())); iexact HR
  iintro HO
  iapply (Rounds.wp_wait_rest_token 𝒱₀ ER (sched m) (c : Thread nD τ) none (κ := K (c, .inl ()))
      (wpE_semWait_eq 𝒱₀ (c : Thread nD τ) none Set.univ) (Set.mem_univ _) () (O := rowsOwe c 0) (W := W) (R := 0) (m := 0) (T := ∅)
      (by rw [expect_bar]; decide)) $$ [Hcr HO Hat]
  · isplitr; · iapply (inv_at m K (c, .inl ())); iexact HR
    isplitl [Hcr]; · iexact Hcr
    isplitl [HO]; · iexact HO
    isplitr; · iapply (mayWait_bar c); iexact Hlev
    iexact Hat
  iintro ⟨HO, Hat, -, Hpay⟩
  ihave Hpay := (Entails.of_eq (rest_bar m c)) $$ Hpay
  imod (Rounds.cell_close ER (sched m) (Set.mem_univ (K (c, .inl ()))) (fun h => h) (R := 0 + 1) (duties_later m (barCell c))) $$ [Hat] with Hz
  · isplitr; · iapply (inv_at m K (c, .inl ())); iexact HR
    iexact Hat
  iapply Hk
  isplitr [HO]
  · unfold mid
    rw [ge_zero, lt_zero, fresh_eq]
    ihave H0 := (Entails.of_eq (owns_ref c cc0_scratch0 k0_pay2)) $$ H0
    ihave H1 := (Entails.of_eq (owns_ref c cc0_scratch1 onesV)) $$ H1
    isplitl [H0]; · iexact H0
    isplitl [H1]; · iexact H1
    isplitl [Hz]; · iexact Hz
    isplitl [Hw]; · iexact Hw
    isplitl [Htoks H2 H3 Hpay]
    · isplitl [Htoks]; · iexact Htoks
      isplitl [H2 H3]
      · isplitl [H2]; · iapply (rows_of_num c); iexact H2
        iapply (rows_of_l c); iexact H3
      iexact Hpay
    rw [bigSep_empty]
    iempintro
  iexists _; iexact HO

/-! ## The loads of the first part -/

/-- The three blocks and the penalty loaded, and then `k` of them. -/
def loading {α : Type} (k : FVec F S1x8x16x128 .f32 → FVec F S1x1024x16x128 .f32 → FVec F S16384x128 .bf16 → FVec F S1x1024x16x128 .f32 → Prog (TpuEff nD τ sig (Elt F) Λ₀ .tc) α) :
    Prog (TpuEff nD τ sig (Elt F) Λ₀ .tc) α :=
  .op (.load M1 (Rect.unit (s := S1x8x16x128) ![0, 0, 0, 0] S1x8x16x128.size inb_S1x8x16x128_S1x8x16x128_0_0_0_0).toLoadRect (View.loadsAt_vmem h_S1x8x16x128)) fun (v13 : FVec F S1x8x16x128 .f32) =>
  .op (.load M2 (Rect.unit (s := S1x1024x16x128) ![0, 0, 0, 0] S1x1024x16x128.size inb_S1x1024x16x128_S1x1024x16x128_0_0_0_0).toLoadRect (View.loadsAt_vmem h_S1x1024x16x128)) fun (v19 : FVec F S1x1024x16x128 .f32) =>
  .op (.load penM (Rect.unit (s := S16384x128) ![0, 0] S16384x128.size inb_S16384x128_S16384x128_0_0).toLoadRect (View.loadsAt_vmem h_S16384x128)) fun (v25 : FVec F S16384x128 .bf16) =>
  .op (.load M3 (Rect.unit (s := S1x1024x16x128) ![0, 0, 0, 0] S1x1024x16x128.size inb_S1x1024x16x128_S1x1024x16x128_0_0_0_0).toLoadRect (View.loadsAt_vmem h_S1x1024x16x128)) fun (v28 : FVec F S1x1024x16x128 .f32) =>
  k v13 v19 v25 v28

theorem loads (c : Dev nD) (j : Fin 8) {α : Type} {Q : α → sProp 𝕄}
    (k : FVec F S1x8x16x128 .f32 → FVec F S1x1024x16x128 .f32 → FVec F S16384x128 .bf16 → FVec F S1x1024x16x128 .f32 → Prog (TpuEff nD τ sig (Elt F) Λ₀ .tc) α) :
    iprop(mid c j.val ∗ inputs m M1 M2 M3 c j)
      ⊢ iprop(((mid c j.val ∗ inputs m M1 M2 M3 c j) -∗ run c (k (iblk m c 0 (pt j)) (iblk m c 1 (pt j)) k0_pay2 (iblk m c 2 (pt j))) Q)
        -∗ run c (loading M1 M2 M3 k) Q) := by
  unfold mid inputs loading
  iintro ⟨⟨Hp, Hrest⟩, H1, H2, H3⟩ Hk
  iapply (load_owns c M1 zero4) $$ H1
  iintro H1
  iapply (load_owns c M2 zero4) $$ H2
  iintro H2
  ihave Hp := (Entails.of_eq (owns_ref c cc0_scratch0 k0_pay2).symm) $$ Hp
  iapply (load_owns c penM zero2) $$ Hp
  iintro Hp
  ihave Hp := (Entails.of_eq (owns_ref c cc0_scratch0 k0_pay2)) $$ Hp
  iapply (load_owns c M3 zero4) $$ H3
  iintro H3
  iapply Hk
  isplitl [Hp Hrest]
  · isplitl [Hp]; · iexact Hp
    iexact Hrest
  isplitl [H1]; · iexact H1
  isplitl [H2]; · iexact H2
  iexact H3

/-- The type of what the first part returns. -/
abbrev Ret (F : FTy → Type) [FloatOps F] [Named F] : Type := Σ' (arg0 : BitVec 32) (d0 : Dev nD) (v5 : BitVec 32) (v8 : BitVec 32) (v9 : BitVec 32) (v27 : FVec F S16384x128 .bf16), FVec F S16384x128 .bf16

/-- What the first part returns: the coordinates' words, the device, the exponentials and the values. -/
def returned (c : Dev nD) (v13 : FVec F S1x8x16x128 .f32) (v19 : FVec F S1x1024x16x128 .f32) (v25 : FVec F S16384x128 .bf16) (v28 : FVec F S1x1024x16x128 .f32) :
    Ret F :=
  ⟨BitVec.ofNat 32 (i 0).val, c, Scalar.remsi (Scalar.divsi c.word 4#32) 2#32, Scalar.remsi (Scalar.divsi c.word 1#32) 4#32,
    Scalar.subi 1#32 (Scalar.remsi (Scalar.divsi c.word 8#32) 2#32), k0_pay6 v13 v19 v25, k0_pay7 v28⟩

/-- The first part at the first point is the opening and then the loads, -/
theorem part14_first (c : Dev nD) (h0 : k0_cond1 i = 1#1) (Q : Ret F → sProp 𝕄) :
    run c (part14 i M1 h1 M2 h2 M3 h3 M4 h4) Q
      = run c (opening i c h0 (loading M1 M2 M3 fun v13 v19 v25 v28 => .ret (returned i c v13 v19 v25 v28))) Q := by
  unfold part14 run
  rw [k0_part14_eq_skeleton]; unfold k0_part14_skel
  simp only [k0_part1_eq_skeleton]; unfold k0_part1_skel
  simp only [dif_pos h0, semSignalWord, semWaitWord, Prog.lift, Prog.bind_op, Prog.bind_ret, Prog.pure_eq_ret, wp_deviceId]
  rfl

/-- at any other the loads alone. -/
theorem part14_later (c : Dev nD) (h0 : ¬ k0_cond1 i = 1#1) (Q : Ret F → sProp 𝕄) :
    run c (part14 i M1 h1 M2 h2 M3 h3 M4 h4) Q
      = run c (loading M1 M2 M3 fun v13 v19 v25 v28 => .ret (returned i c v13 v19 v25 v28)) Q := by
  unfold part14 run
  rw [k0_part14_eq_skeleton]; unfold k0_part14_skel
  simp only [dif_neg h0, semSignalWord, semWaitWord, Prog.lift, Prog.bind_op, Prog.bind_ret, Prog.pure_eq_ret, wp_deviceId]
  rfl

/-- What the first part leaves: its results, and the rows before `j` sent. -/
def afterFirst (c : Dev nD) (j : Fin 8) (r : Ret F) : sProp 𝕄 :=
  iprop(⌜r = returned i c (iblk m c 0 (pt j)) (iblk m c 1 (pt j)) k0_pay2 (iblk m c 2 (pt j))⌝
    ∗ (∃ K, records m K) ∗ levAts L lv ∗ mid c j.val ∗ owing c (rowsOwe c j.val) ∗ inputs m M1 M2 M3 c j)

theorem loads_return (c : Dev nD) (j : Fin 8) :
    iprop((∃ K, records m K) ∗ levAts L lv ∗ mid c j.val ∗ owing c (rowsOwe c j.val) ∗ inputs m M1 M2 M3 c j)
      ⊢ run c (loading M1 M2 M3 fun v13 v19 v25 v28 => .ret (returned i c v13 v19 v25 v28)) (afterFirst m i M1 M2 M3 c j) := by
  iintro ⟨HK, Hlev, Hmid, HO, Hin⟩
  iapply (loads m M1 M2 M3 c j) $$ [Hmid Hin]
  · isplitl [Hmid]; · iexact Hmid
    iexact Hin
  iintro ⟨Hmid, Hin⟩
  iapply run_ret
  unfold afterFirst
  isplitr; · ipureintro; rfl
  isplitl [HK]; · iexact HK
  isplitl [Hlev]; · iexact Hlev
  isplitl [Hmid]; · iexact Hmid
  isplitl [HO]; · iexact HO
  iexact Hin

/-- The first part, at point `j`: from the state before the point to the rows before `j` sent. -/
theorem first_part (c : Dev nD) (j : Fin 8) (hi : (i 0).val = j.val) :
    iprop(phi m c j.val ∗ owing c (owedAt c j.val) ∗ inputs m M1 M2 M3 c j)
      ⊢ run c (part14 i M1 h1 M2 h2 M3 h3 M4 h4) (afterFirst m i M1 M2 M3 c j) := by
  unfold phi state
  by_cases h0 : k0_cond1 i = 1#1
  · obtain rfl : j = 0 := Fin.ext (hi.symm.trans ((cond1_iff i).mp h0))
    rw [part14_first _ _ _ _ _ _ _ _ _ c h0, if_pos (show (0 : Fin 8).val = 0 from rfl)]
    iintro ⟨⟨⟨%K, #HR⟩, #Hlev, He⟩, HO, Hin⟩
    iapply (opens m i c K h0) $$ [He HO]
    · isplitr; · iexact HR
      isplitr; · iexact Hlev
      isplitl [He]; · iexact He
      iexact HO
    iintro ⟨Hmid, HO⟩
    iapply (loads_return m i M1 M2 M3 c 0)
    isplitr; · iexists K; iexact HR
    isplitr; · iexact Hlev
    isplitl [Hmid]; · iexact Hmid
    isplitl [HO]; · iexact HO
    iexact Hin
  · have hj : j.val ≠ 0 := fun h => h0 ((cond1_iff i).mpr (hi.trans h))
    rw [part14_later _ _ _ _ _ _ _ _ _ c h0, if_neg hj, if_neg (by omega), owedAt_succ c _ hj]
    iintro ⟨⟨HK, Hlev, Hmid⟩, HO, Hin⟩
    iapply (loads_return m i M1 M2 M3 c j)
    isplitl [HK]; · iexact HK
    isplitl [Hlev]; · iexact Hlev
    isplitl [Hmid]; · iexact Hmid
    isplitl [HO]; · iexact HO
    iexact Hin

/-! ## The row computed and sent -/

theorem rowN_at (M : Memref sig .tc .vmem S8x8x16x128 .f32) (j : Fin 8) {off : Fin 4 → ℕ} (h : off = ![j.val, 0, 0, 0]) (inb : ∀ a, off a + S1x8x16x128.size a ≤ S8x8x16x128.size a) :
    (M.slice (Rect.unit (s := S8x8x16x128) off S1x8x16x128.size inb) (fun _ => rfl)).squeeze S8x16x128 squeezes_S1x8x16x128_S8x16x128 = rowN M j := by
  subst h; rfl
theorem rowL_at (M : Memref sig .tc .vmem S8x128x1 .f32) (j : Fin 8) {off : Fin 3 → ℕ} (h : off = ![j.val, 0, 0]) (inb : ∀ a, off a + S1x128x1.size a ≤ S8x128x1.size a) :
    (M.slice (Rect.unit (s := S8x128x1) off S1x128x1.size inb) (fun _ => rfl)).squeeze S128x1 squeezes_S1x128x1_S128x1 = rowL M j := by
  subst h; rfl

/-- With row `j`'s numerators sent and its normalisers stored. -/
def halfSent (c : Dev nD) (j : Fin 8) : sProp 𝕄 :=
  iprop((((c : Thread nD τ).loc cc0_scratch0) ↦{fullShare} (k0_pay2 (F := F)))
    ∗ (((c : Thread nD τ).loc cc0_scratch1) ↦{fullShare} (onesV (F := F)))
    ∗ semVal (barCell c) 0
    ∗ (bigSep Finset.univ fun j => waiting c j)
    ∗ (bigSep (ge (j.val + 1)) fun j => fresh c j)
    ∗ (bigSep (lt j.val) fun j => sent c j)
    ∗ cred (tallyAt (cell c 0 j) () NN)
    ∗ (dutyTok ER (cell c 2 j) 0 () ∗ dutyTok ER (cell (peer c) 3 j) 0 ())
    ∗ ownL c j (lAll m c) ∗ (∃ f, rcvL (peer c) j f)
    ∗ owing c (rowsOwe c (j.val + 1) + tallyAt (cell (peer c) 3 j) () NL))

/-- The second part: row `j` computed, and its numerators sent. -/
theorem second_part (c : Dev nD) (K : Dev nD × CK → ℕ) (j : Fin 8) (hi : (i 0).val = j.val) (a v5 v8 v9 : BitVec 32) :
    iprop(records m K ∗ mid c j.val ∗ owing c (rowsOwe c j.val))
      ⊢ run c (part15 i M1 h1 M2 h2 M3 h3 M4 h4 a c v5 v8 v9 (k0_pay6 (iblk m c 0 (pt j)) (iblk m c 1 (pt j)) k0_pay2) (k0_pay7 (iblk m c 2 (pt j)))) (fun _ => halfSent m c j) := by
  have o1 : k0_off1 i = ![j.val, 0, 0, 0] := by rw [k0_off1_eq, hi]
  have o2 : k0_off2 i = ![j.val, 0, 0] := by rw [k0_off2_eq, hi]
  have o3 : k0_off3 i = ![j.val] := by rw [k0_off3_eq, hi]
  have o4 : k0_off4 i = ![j.val, 0, 0, 0] := by rw [k0_off4_eq, hi]
  unfold part15 mid halfSent
  rw [k0_part15_eq_skeleton]; unfold k0_part15_skel
  simp only [Prog.lift, Prog.bind_op, Prog.bind_ret, Prog.pure_eq_ret]
  rw [ge_step j, bigSep_cons (not_mem_ge j), rowsOwe_step c j]
  unfold fresh rowToks
  iintro ⟨#HR, ⟨Hp, H1, Hz, Hw, ⟨⟨⟨Ht0, Ht1, Ht2, Ht3⟩, ⟨⟨%fn, Hn⟩, %fl, Hl⟩, ⟨%gn, Hrn⟩, Hrl⟩, Hge⟩, Hlt⟩, HO⟩
  ihave H1 := (Entails.of_eq (owns_ref c cc0_scratch1 onesV).symm) $$ H1
  iapply (load_owns c onesM zero2) $$ H1
  iintro H1
  ihave H1 := (Entails.of_eq (owns_ref c cc0_scratch1 onesV)) $$ H1
  iapply (load_rowN c j o1 (fun _ => rfl) fn) $$ Hn
  iintro Hn
  iapply (store_rowN m c j o1 fn) $$ Hn
  iintro Hn
  iapply (load_rowL c j o2 (fun _ => rfl) fl) $$ Hl
  iintro Hl
  iapply (store_rowL m c j o2 fl) $$ Hl
  iintro Hl
  iapply (send_num m c j K (dev2_eq c) (sem0 j o3 _) (sem1 j o3 _) (rowN_at numM j o4 _) (rowN_at rnumM j o4 _) gn) $$ [Hn Hrn HO Ht0 Ht1]
  · isplitr; · iexact HR
    isplitl [Hn]; · iexact Hn
    isplitl [Hrn]; · iexact Hrn
    isplitl [HO]; · iexact HO
    isplitl [Ht0]; · iexact Ht0
    iexact Ht1
  iintro ⟨Hc, HO⟩
  iapply run_ret
  isplitl [Hp]; · iexact Hp
  isplitl [H1]; · iexact H1
  isplitl [Hz]; · iexact Hz
  isplitl [Hw]; · iexact Hw
  isplitl [Hge]; · iexact Hge
  isplitl [Hlt]; · iexact Hlt
  isplitl [Hc]; · iexact Hc
  isplitl [Ht2 Ht3]
  · isplitl [Ht2]; · iexact Ht2
    iexact Ht3
  isplitl [Hl]; · iexact Hl
  isplitl [Hrl]; · iexact Hrl
  iexact HO

/-- The last transfer: row `j`'s normalisers sent. -/
theorem last_send (c : Dev nD) (K : Dev nD × CK → ℕ) (j : Fin 8) {α : Type} {Q : α → sProp 𝕄} {n : Dev nD} (hn : n = peer c) {q₀ q₁ : DmaSem sig} (h₀ : q₀ = dS 2 j) (h₁ : q₁ = dS 3 j)
    {src : Memref sig .tc .vmem S128x1 .f32} (hsrc' : src = rowL lM j) {dst : Memref sig .tc .vmem S128x1 .f32} (hdst' : dst = rowL rlM j)
    {hsc hsrc hdst hsem} {k : PUnit → Prog (TpuEff nD τ sig (Elt F) Λ₀ .tc) α} :
    iprop(records m K ∗ halfSent m c j)
      ⊢ iprop(((mid c (j.val + 1) ∗ owing c (rowsOwe c (j.val + 1))) -∗ run c (k ⟨⟩) Q)
        -∗ run c (.op (.enqueueDma src (.remote (Dev.tc n : Thread nD τ) dst (.dma q₀) hsc) (.dma q₁) hsrc hdst hsem) k) Q) := by
  unfold halfSent mid
  rw [lt_step j, bigSep_cons (not_mem_lt j)]
  iintro ⟨#HR, Hp, H1, Hz, Hw, Hge, Hlt, Hc, ⟨Ht2, Ht3⟩, Hl, ⟨%g, Hrl⟩, HO⟩ Hk
  iapply (send_l m c j K hn h₀ h₁ hsrc' hdst' g) $$ [Hl Hrl HO Ht2 Ht3]
  · isplitr; · iexact HR
    isplitl [Hl]; · iexact Hl
    isplitl [Hrl]; · iexact Hrl
    isplitl [HO]; · iexact HO
    isplitl [Ht2]; · iexact Ht2
    iexact Ht3
  iintro ⟨Hc2, HO⟩
  iapply Hk
  isplitr [HO]
  · isplitl [Hp]; · iexact Hp
    isplitl [H1]; · iexact H1
    isplitl [Hz]; · iexact Hz
    isplitl [Hw]; · iexact Hw
    isplitl [Hge]; · iexact Hge
    isplitl [Hc Hc2]
    · unfold sent
      isplitl [Hc]; · iexact Hc
      iexact Hc2
    iexact Hlt
  iexact HO

/-! ## The end -/

/-- The rows finished are the cells at zero and the four buffers whole. -/
theorem finished_eq (c : Dev nD) : (bigSep Finset.univ fun j => (finished m c j : sProp 𝕄))
    = iprop((bigSep Finset.univ fun j : Fin 8 => bigSep Finset.univ fun k : Fin 4 => semVal (cell c k j) 0)
      ∗ (holds c numM (numAll m c) ∗ holds c lM (lAll m c)) ∗ (holds c rnumM (numAll m (peer c)) ∗ holds c rlM (lAll m (peer c)))) := by
  unfold finished holds
  rw [bigSep_sep', bigSep_sep', bigSep_sep', bigSep_sep', num_of_rows, l_of_rows, rnum_of_rows, rl_of_rows,
    owns_ref, owns_ref, owns_ref, owns_ref]

/-- The waits and the loads after the last point: the sums of what was sent and what has arrived, and everything handed back. -/
theorem sums_part (c : Dev nD) (K : Dev nD × CK → ℕ) (v5 v8 v9 : BitVec 32) :
    iprop(records m K ∗ mid c 8 ∗ owing c (rowsOwe c 8))
      ⊢ run c (part13 i M1 h1 M2 h2 M3 h3 M4 h4 v5 v8 v9)
        (fun r => iprop(⌜r = ⟨k0_pay3 (numAll m c) (numAll m (peer c)), k0_pay4 (lAll m c) (lAll m (peer c))⟩⌝ ∗ final c ∗ owing c 0)) := by
  rw [part13_eq]
  unfold mid final
  rw [ge_eight, lt_eight, rowsOwe_eight]
  iintro ⟨#HR, ⟨Hp, H1, Hz, Hw, -, Hs⟩, HO⟩
  iapply (wait_rows m c K [0, 1, 2, 3, 4, 5, 6, 7] (by decide)) $$ [Hw Hs HO]
  · isplitr; · iexact HR
    isplitl [HO]; · iexact HO
    rw [show ([0, 1, 2, 3, 4, 5, 6, 7] : List (Fin 8)).toFinset = Finset.univ by decide, bigSep_sep']
    isplitl [Hw]; · iexact Hw
    iexact Hs
  rw [show ([0, 1, 2, 3, 4, 5, 6, 7] : List (Fin 8)).toFinset = Finset.univ by decide, finished_eq]
  unfold sums
  iintro ⟨HO, Hcells, ⟨Hn, Hl⟩, Hrn, Hrl⟩
  iapply (load_owns c numM zero4) $$ Hn
  iintro Hn
  iapply (load_owns c rnumM zero4) $$ Hrn
  iintro Hrn
  iapply (load_owns c lM zero3) $$ Hl
  iintro Hl
  iapply (load_owns c rlM zero3) $$ Hrl
  iintro Hrl
  iapply run_ret
  isplitr; · ipureintro; rfl
  isplitr [HO]
  · ihave Hn := (Entails.of_eq (owns_ref c cc0_scratch2 (numAll m c))) $$ Hn
    ihave Hrn := (Entails.of_eq (owns_ref c cc0_scratch4 (numAll m (peer c)))) $$ Hrn
    ihave Hl := (Entails.of_eq (owns_ref c cc0_scratch3 (lAll m c))) $$ Hl
    ihave Hrl := (Entails.of_eq (owns_ref c cc0_scratch5 (lAll m (peer c)))) $$ Hrl
    isplitl [Hz]; · iexact Hz
    isplitl [Hcells]; · iexact Hcells
    isplitl [Hp]; · iexists _; iexact Hp
    isplitl [H1]; · iexists _; iexact H1
    isplitl [Hn]; · iexists _; iexact Hn
    isplitl [Hl]; · iexists _; iexact Hl
    isplitl [Hrn]; · iexists _; iexact Hrn
    iexists _; iexact Hrl
  iexact HO

/-- One point of the grid: the state moves on by one row, the inputs stay, and the output window holds the result once the
    last point has stored it. -/
theorem body_at (c : Dev nD) (j : Fin 8) (hi : (i 0).val = j.val) (X : FVec F S8x8x16x128 .f32) :
    iprop(phi m c j.val ∗ owing c (owedAt c j.val) ∗ inputs m M1 M2 M3 c j ∗ holds c M4 X)
      ⊢ run c (body i M1 h1 M2 h2 M3 h3 M4 h4)
        (fun _ => iprop(phi m c (j.val + 1) ∗ owing c (owedAt c (j.val + 1)) ∗ inputs m M1 M2 M3 c j
          ∗ holds c M4 (if j.val = 7 then outAt m c else X))) := by
  have o3 : k0_off3 i = ![j.val] := by rw [k0_off3_eq, hi]
  have o5 : k0_off5 i = ![j.val, 0, 0] := by rw [k0_off5_eq, hi]
  unfold body
  rw [cc0_body_eq_skeleton]; unfold cc0_body_skel
  iintro ⟨Hphi, HO, Hin, H4⟩
  iapply (run_seq (afterFirst m i M1 M2 M3 c j) (first_part m i M1 h1 M2 h2 M3 h3 M4 h4 c j hi)) $$ [Hphi HO Hin]
  · isplitl [Hphi]; · iexact Hphi
    isplitl [HO]; · iexact HO
    iexact Hin
  iintro %r H
  unfold afterFirst
  icases H with ⟨%hr, ⟨%K, #HR⟩, #Hlev, Hmid, HO, Hin⟩
  subst hr
  unfold returned
  dsimp only
  iapply (run_seq (fun _ => halfSent m c j) (second_part m i M1 h1 M2 h2 M3 h3 M4 h4 c K j hi _ _ _ _)) $$ [Hmid HO]
  · isplitr; · iexact HR
    isplitl [Hmid]; · iexact Hmid
    iexact HO
  iintro %_ Hh
  simp only [Prog.lift, Prog.bind_op, Prog.bind_ret, Prog.pure_eq_ret]
  iapply (last_send m c K j (dev3_eq c) (sem2 j o3 _) (sem3 j o3 _) (rowL_at lM j o5 _) (rowL_at rlM j o5 _)) $$ [Hh]
  · isplitr; · iexact HR
    iexact Hh
  iintro ⟨Hmid, HO⟩
  unfold phi state
  rw [if_neg (Nat.succ_ne_zero _), owedAt_succ c (j.val + 1) (Nat.succ_ne_zero _)]
  by_cases h7 : k0_cond2 i = 1#1
  · have hj : j.val = 7 := hi.symm.trans ((cond2_iff i).mp h7)
    have hj8 : j.val + 1 = 8 := by omega
    rw [dif_pos h7, if_pos hj, if_pos hj8, hj8]
    iapply (run_seq _ (sums_part m i M1 h1 M2 h2 M3 h3 M4 h4 c K _ _ _)) $$ [Hmid HO]
    · isplitr; · iexact HR
      isplitl [Hmid]; · iexact Hmid
      iexact HO
    iintro %r ⟨%hr, Hfin, HO⟩
    subst hr
    iapply (load_owns c M4 zero4) $$ H4
    iintro H4
    iapply (store_owns c M4 zero4) $$ H4
    iintro H4
    iapply run_ret
    rw [rowsOwe_eight]
    isplitl [Hfin]
    · isplitr; · iexists K; iexact HR
      isplitr; · iexact Hlev
      iexact Hfin
    isplitl [HO]; · iexact HO
    isplitl [Hin]; · iexact Hin
    iexact H4
  · have hj : j.val ≠ 7 := fun h => h7 ((cond2_iff i).mpr (hi.trans h))
    rw [dif_neg h7, if_neg hj, if_neg (by omega)]
    iapply run_ret
    isplitl [Hmid]
    · isplitr; · iexists K; iexact HR
      isplitr; · iexact Hlev
      iexact Hmid
    isplitl [HO]; · iexact HO
    isplitl [Hin]; · iexact Hin
    iexact H4

end Parts

/-! ## The body obligation -/

/-- An input window's buffer holds the window's block before the body. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) := by
  refine ⟨fun d => ?_, fun d => ?_, fun d => ?_⟩
  · exact ((dats m 0 c).before_in_eq_fetched 0 rfl (fun _ => rfl) (fun _ _ _ => rfl) (fun t => rfl) t d).trans rfl
  · exact ((dats m 0 c).before_in_eq_fetched 1 rfl (fun _ => rfl) (fun _ _ _ => rfl) (fun t => rfl) t d).trans rfl
  · exact ((dats m 0 c).before_in_eq_fetched 2 rfl (fun _ => rfl) (fun _ _ _ => rfl) (fun t => rfl) t d).trans rfl

theorem coords_val : ∀ t : Fin grid0.N, (grid0.coords t 0).val = t.val := by decide +kernel

/-- What is owed, as the pipeline states it, is owed. -/
theorem owing_of (c : Dev nD) (t : Fin (cfg0.N + 1)) : ((dats m 0 c).owesAt () t : sProp 𝕄) ⊢ owing c (owedAt c t.val) := by
  unfold Dat.owesAt Pipeline.owesWithin owing
  iintro ⟨%W, -, H⟩
  iexists W
  iexact H
theorem of_owing (c : Dev nD) (t : Fin (cfg0.N + 1)) : owing c (owedAt c t.val) ⊢ ((dats m 0 c).owesAt () t : sProp 𝕄) := by
  unfold Dat.owesAt Pipeline.owesWithin owing
  iintro ⟨%W, H⟩
  iexists W
  isplitr; · ipureintro; exact fun _ _ => Or.inl trivial
  iexact H

/-- The pipeline's obligation on the body, at every point. -/
theorem body_obligation (c : Dev nD) : BodyObligation (dats (F := F) m 0 c) (defs₀ (F := F)) 𝒱₀ () Set.univ := fun t => by
  obtain ⟨b0, b1, b2⟩ := before_in m c t
  have h8 : t.val < 8 := t.isLt.trans_eq cfg0_N
  have ht : pt ⟨t.val, h8⟩ = t := rfl
  have hb := fun X => body_at m (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) c ⟨t.val, h8⟩ (coords_val t) X
  have e0 : (dats m 0 c).after 0 t = iblk m c 0 t := rfl
  have e1 : (dats m 0 c).after 1 t = iblk m c 1 t := rfl
  have e2 : (dats m 0 c).after 2 t = iblk m c 2 t := rfl
  have e3 : (dats m 0 c).after 3 t = outAt m c := rfl
  have p0 : (dats m 0 c).Φ t.castSucc = phi m c t.val := rfl
  have p1 : phi m c (t.val + 1) = (dats m 0 c).Φ t.succ := rfl
  have i0 : cfg0.idle 0 (cfg0.grid.coords t) = false := rfl
  have i1 : cfg0.idle 1 (cfg0.grid.coords t) = false := rfl
  have i2 : cfg0.idle 2 (cfg0.grid.coords t) = false := rfl
  have i3 : idle0 3 (grid0.coords t) = !(k0_cond2 (grid0.coords t) == 1#1) := rfl
  rw [bigSep_W0, bigSep_W0]
  simp only [b0, b1, b2, e0, e1, e2, e3, i0, i1, i2]
  change _ ⊢ run c (bodyAt0 t) _
  iintro ⟨Hphi, HO, ⟨%d0, H0⟩, ⟨%d1, H1⟩, ⟨%d2, H2⟩, ⟨%d3, H3⟩⟩
  ihave HO := (owing_of m c t.castSucc) $$ HO
  iapply (run_post (hb ((dats m 0 c).before 3 t d3))) $$ [Hphi HO H0 H1 H2 H3]
  · unfold inputs
    isplitl [Hphi]; · iapply (Entails.of_eq p0); iexact Hphi
    isplitl [HO]; · iexact HO
    isplitl [H0 H1 H2]
    · isplitl [H0]; · iexact H0
      isplitl [H1]; · iexact H1
      iexact H2
    iexact H3
  iintro %_ ⟨Hphi, HO, Hin, H3⟩
  unfold inputs
  icases Hin with ⟨H0, H1, H2⟩
  isplitl [Hphi]; · iapply (Entails.of_eq p1); iexact Hphi
  isplitl [HO]; · iapply (of_owing m c t.succ); iexact HO
  isplitl [H0]; · iexact H0
  isplitl [H1]; · iexact H1
  isplitl [H2]; · iexact H2
  by_cases h7 : t.val = 7
  · have hi : idle0 3 (grid0.coords t) = false := by
      rw [i3, (cond2_iff _).mpr ((coords_val t).trans h7)]; rfl
    simp only [hi, h7, if_true]
    iexact H3
  · have hi : idle0 3 (grid0.coords t) = true := by
      rw [i3, beq_eq_false_iff_ne.mpr fun h => h7 ((coords_val t).symm.trans ((cond2_iff _).mp h))]; rfl
    have hf : (cfg0.win 3).flush t = false := by
      rw [Bool.eq_false_iff]; exact fun h => h7 (by have := (flush0_3 t).mp h; omega)
    simp only [hi, hf, h7, if_false]
    iexists d3
    iexact H3

end Cert.Exchange

end
-- ==== Proof.Launch.lean ====
/-
# `Launch`: the launch of the exchange, and the run of the whole program

The cells of all devices and their duty tokens are made once for the machine; every device is dealt its positions, the
tokens of the duties it pays and the launch credit of what its peer owes it. With the body's obligation this gives the run:
every output array ends at what the last point stores, every input as it was, every semaphore at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-! ## The cells and the tokens of the machine -/

theorem csem_injective : Function.Injective csem := by
  rintro (⟨⟩ | ⟨k, j⟩) (⟨⟩ | ⟨k', j'⟩) h
  · rfl
  · cases h
  · cases h
  · obtain ⟨rfl, rfl⟩ := dS_inj (SemLoc.dma.inj h); rfl

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of the machine, -/
def cells : Finset (GSem nD τ sig) := Finset.univ.map ⟨kcell, kcell_injective⟩

/-- a cell's one duty, in round 0, -/
abbrev tokOf (ck : Dev nD × CK) : GSem nD τ sig × ℕ × Unit := (kcell ck, 0, ())
theorem tokOf_injective : Function.Injective tokOf := fun a b h => kcell_injective (congrArg Prod.fst h)

/-- and the tokens of all duties. -/
def tokens : Finset (GSem nD τ sig × ℕ × Unit) := Finset.univ.map ⟨tokOf, tokOf_injective⟩

/-- The ghost state the launch starts from: the staging protocol's and the exchange's. -/
def u₀ : UU := (initOf (Pipeline.cells cfgs cellOf_inj) (Pipeline.launchToks cfgs cellOf_inj), initOf cells tokens)

/-- The tokens of device `c`'s own cells. -/
def toks (c : Dev nD) : sProp 𝕄 := bigSep Finset.univ fun k : CK => dutyTok ER (kcell (c, k)) 0 ()

/-- What the launch deals device `c`: of each of its cells the state, the position and the round reached, and the token. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What a device pays with: the entry signal's token and its rows' tokens. -/
def payToks (c : Dev nD) : sProp 𝕄 := iprop(dutyTok ER (barCell (peer c)) 0 () ∗ bigSep Finset.univ fun j => rowToks c j)

/-- A device's positions and what it pays with. -/
def linear (c : Dev nD) : sProp 𝕄 := iprop((bigSep Finset.univ fun k : CK => atPos ER (kcell (c, k)) 0 ∅ 0) ∗ payToks c)

/-- What the launch makes of it: the invariants of all cells, the positions and the tokens of the duties the device pays. -/
def G' (c : Dev nD) : sProp 𝕄 := iprop((∃ K, records m K) ∗ linear c)

/-- Over a device's cells: the barrier's, and the rows' by kind. -/
theorem bigSep_cells (Φ : CK → sProp 𝕄) :
    bigSep Finset.univ Φ
      = iprop(Φ (.inl ()) ∗ bigSep Finset.univ fun j : Fin 8 => bigSep Finset.univ fun k : Fin 4 => Φ (.inr (k, j))) := by
  refine (bigSep_univ_sum Φ).trans ?_
  rw [show (Finset.univ : Finset Unit) = {()} from rfl, bigSep_singleton, bigSep_univ_prod, bigSep_univ_comm]
  rfl

theorem fund : BI.own (ER (initOf cells tokens)) ⊢ (|==> bigSep Finset.univ (G m) : sProp 𝕄) := by
  have hX (Φ : GSem nD τ sig → sProp 𝕄) :
      bigSep cells Φ = bigSep Finset.univ fun c : Dev nD => bigSep Finset.univ fun k : CK => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]; rfl
  iintro HX
  imod (Rounds.fund ER (sched m) cells tokens) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The scoped semaphores of a device by rows and kinds; -/
theorem ownSems0_rows (c : Dev nD) :
    (Pipeline.ownSems0 (Ix := Unit) (Name := ℕ) (U := UU) (Lvl := ℕ) (Val := Elt F) (τ := τ) osem c : sProp 𝕄)
      = bigSep Finset.univ fun j : Fin 8 => bigSep Finset.univ fun k : Fin 4 => semVal (cell c k j) 0 := by
  unfold Pipeline.ownSems0
  rw [bigSep_univ_prod, bigSep_univ_comm]

/-- the barrier is its one unscoped semaphore. -/
theorem unscopedSems0_bar (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_rows, unscopedSems0_bar, bigSep_cells]
  iintro ⟨HS, HB⟩
  isplitl [HB] <;> iassumption

/-- The cells of one device allocated: their invariants, for the semaphores at zero and the cells' states. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A token of every device's cell of kind `k` and row `j` is one of every device's peer's. -/
theorem toks_peer (k : CK) :
    (bigSep Finset.univ fun c : Dev nD => (dutyTok ER (kcell (c, k)) 0 () : sProp 𝕄))
      = bigSep Finset.univ fun c : Dev nD => dutyTok ER (kcell (peer c, k)) 0 () :=
  bigSep_univ_equiv pairing (fun c : Dev nD => (dutyTok ER (kcell (c, k)) 0 () : sProp 𝕄))

/-- The tokens dealt to the payers: the barrier's and the arrivals' to the peer. -/
theorem toks_around : (bigSep Finset.univ fun c : Dev nD => (toks c : sProp 𝕄)) = bigSep Finset.univ fun c : Dev nD => payToks c := by
  unfold toks payToks rowToks
  simp only [bigSep_cells, bigSep_kinds, bigSep_sep']
  rw [toks_peer (.inl ()), bigSep_univ_comm (fun (c : Dev nD) (j : Fin 8) => (dutyTok ER (kcell (c, .inr (1, j))) 0 () : sProp 𝕄)),
    bigSep_univ_comm (fun (c : Dev nD) (j : Fin 8) => (dutyTok ER (kcell (c, .inr (3, j))) 0 () : sProp 𝕄)),
    bigSep_congr (s := Finset.univ) (fun (j : Fin 8) _ => toks_peer (F := F) (.inr (1, j))),
    bigSep_congr (s := Finset.univ) (fun (j : Fin 8) _ => toks_peer (F := F) (.inr (3, j))),
    bigSep_univ_comm (fun (j : Fin 8) (c : Dev nD) => (dutyTok ER (kcell (peer c, .inr (1, j))) 0 () : sProp 𝕄)),
    bigSep_univ_comm (fun (j : Fin 8) (c : Dev nD) => (dutyTok ER (kcell (peer c, .inr (3, j))) 0 () : sProp 𝕄))]

theorem ghost_intro (K : Dev nD × CK → ℕ) (c : Dev nD) : iprop(records m K ∗ linear c) ⊢ G' m c := by
  unfold G'
  iintro ⟨#HR, HL⟩
  isplitr
  · iexists K; iexact HR
  iexact HL

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · unfold linear
    rw [bigSep_sep']
    isplitl [Hat]; · iexact Hat
    iexact Htok

/-- The global step: the semaphores of every device and what the launch deals give every device what it starts with. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What every device owes at launch. -/
abbrev O₀ (c : Dev nD) : CellTallies nD τ sig Unit := owedAt c 0

theorem eq_peer {c d : Dev nD} : Iff (d = peer c) (c = peer d) :=
  ⟨fun h => by rw [h, peer_peer], fun h => by rw [h, peer_peer]⟩

theorem owed_rows (d c : Dev nD) (g : GSem nD τ sig) (h : g ≠ barCell (peer d)) : O₀ d g () = ∑ j : Fin 8, rowOwe d j g () := by
  unfold O₀
  rw [owedAt_zero, Pi.add_apply, Finsupp.add_apply, tallyAt_apply, if_neg (fun h' => h h'.1), add_zero]
  unfold rowsOwe
  rw [ge_zero, Finset.sum_apply, Finsupp.finsetSum_apply]

/-- A device owes the barrier of its peer one unit, -/
theorem owed_bar (d c : Dev nD) : O₀ d (barCell c) () = if d = peer c then 1 else 0 := by
  have hz : rowsOwe d 0 (barCell c) () = 0 := by
    by_contra hn
    obtain ⟨j, h | h⟩ := rowsOwe_pos (Nat.pos_of_ne_zero hn) <;> exact bar_ne_cell h
  unfold O₀
  rw [owedAt_zero, Pi.add_apply, Finsupp.add_apply, hz, zero_add, tallyAt_apply]
  exact if_congr ⟨fun h => eq_peer.mpr (bar_inj h.1), fun h => ⟨congrArg barCell (eq_peer.mp h), rfl⟩⟩ rfl rfl

/-- the arrival of a row of numerators its credit, -/
theorem owed_num (d c : Dev nD) (j : Fin 8) : O₀ d (cell c 1 j) () = if d = peer c then NN else 0 := by
  rw [owed_rows d c _ (fun h => bar_ne_cell h.symm)]
  have h (i : Fin 8) : rowOwe d i (cell c 1 j) () = if i = j then (if d = peer c then NN else 0) else 0 := by
    unfold rowOwe
    rw [Pi.add_apply, Finsupp.add_apply, tallyAt_apply, tallyAt_apply, if_neg (fun h' => absurd (cell_inj h'.1).2.1 (by decide)), zero_add, ← ite_and]
    exact if_congr ⟨fun h => ⟨(cell_inj h.1).2.2.symm, eq_peer.mpr (cell_inj h.1).1⟩,
      fun h => ⟨by rw [h.1, ← eq_peer.mp h.2], rfl⟩⟩ rfl rfl
  rw [Finset.sum_congr rfl fun i _ => h i, Finset.sum_ite_eq' Finset.univ j, if_pos (Finset.mem_univ _)]

/-- and the arrival of a row of normalisers its. -/
theorem owed_l (d c : Dev nD) (j : Fin 8) : O₀ d (cell c 3 j) () = if d = peer c then NL else 0 := by
  rw [owed_rows d c _ (fun h => bar_ne_cell h.symm)]
  have h (i : Fin 8) : rowOwe d i (cell c 3 j) () = if i = j then (if d = peer c then NL else 0) else 0 := by
    unfold rowOwe
    rw [Pi.add_apply, Finsupp.add_apply, tallyAt_apply, tallyAt_apply, if_neg (c := _ ∧ _) (t := NN) (fun h' => absurd (cell_inj h'.1).2.1 (by decide)), add_zero, ← ite_and]
    exact if_congr ⟨fun h => ⟨(cell_inj h.1).2.2.symm, eq_peer.mpr (cell_inj h.1).1⟩,
      fun h => ⟨by rw [h.1, ← eq_peer.mp h.2], rfl⟩⟩ rfl rfl
  rw [Finset.sum_congr rfl fun i _ => h i, Finset.sum_ite_eq' Finset.univ j, if_pos (Finset.mem_univ _)]

/-- A cell only its device's peer owes, `n` units, is dealt `n` at launch. -/
theorem launch_credit (c : Dev nD) (g : GSem nD τ sig) (n : ℕ) (h : ∀ d, O₀ d g () = if d = peer c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (peer c) fun _ => n, if_pos (Finset.mem_univ _)]

/-- The credits device `c` starts with: its barrier's unit and its arrivals' credits. -/
theorem creds (c : Dev nD) :
    (Pipeline.launchCred O₀ c : sProp 𝕄) ⊢ iprop(cred (tallyAt (barCell c) () 1)
      ∗ bigSep Finset.univ fun j : Fin 8 => iprop(cred (tallyAt (cell c 1 j) () NN) ∗ cred (tallyAt (cell c 3 j) () NL))) := by
  unfold Pipeline.launchCred
  refine (bigSep_subset (Finset.subset_univ (Finset.univ.map ⟨csem, csem_injective⟩))).trans ?_
  rw [bigSep_map, bigSep_cells]
  have hrow (j : Fin 8) :
      (bigSep Finset.univ fun k : Fin 4 => cred (tallyOn (cell c k j) (launchCredit (Pipeline.owing O₀) 0 (cell c k j))) : sProp 𝕄)
        ⊢ iprop(cred (tallyAt (cell c 1 j) () NN) ∗ cred (tallyAt (cell c 3 j) () NL)) := by
    rw [bigSep_kinds, launch_credit c (cell c 1 j) NN (fun d => owed_num d c j), launch_credit c (cell c 3 j) NL (fun d => owed_l d c j)]
    iintro ⟨-, H1, -, H3⟩
    isplitl [H1] <;> iassumption
  have hbar : (tallyOn (barCell c) (launchCredit (Pipeline.owing O₀) 0 (barCell c)) : CellTallies nD τ sig Unit) = tallyAt (barCell c) () 1 :=
    launch_credit c (barCell c) 1 (fun d => owed_bar d c)
  rw [← hbar]
  have hrows : (bigSep Finset.univ fun j : Fin 8 => bigSep Finset.univ fun k : Fin 4 =>
        cred (tallyOn (cell c k j) (launchCredit (Pipeline.owing O₀) 0 (cell c k j))) : sProp 𝕄)
      ⊢ bigSep Finset.univ fun j : Fin 8 => iprop(cred (tallyAt (cell c 1 j) () NN) ∗ cred (tallyAt (cell c 3 j) () NL)) :=
    bigSep_mono fun j _ => hrow j
  exact sep_mono_right hrows

/-! ## The conditions of the launch -/

/-- What device `c` starts with, beside its scratch buffers. -/
def start (c : Dev nD) : sProp 𝕄 :=
  iprop((∃ K, records m K) ∗ levAts L lv ∗ (dutyTok ER (barCell (peer c)) 0 () ∗ atPos ER (barCell c) 0 ∅ 0 ∗ cred (tallyAt (barCell c) () 1))
    ∗ (bigSep Finset.univ fun j => waiting c j) ∗ (bigSep Finset.univ fun j => rowToks c j))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' linear payToks waiting
  rw [bigSep_cells]
  iintro ⟨-, Hlev, Hcr, -, HR, ⟨HaB, Hat⟩, HtB, Htok⟩
  ihave Hc := (creds (F := F) c) $$ Hcr
  icases Hc with ⟨H1, HN⟩
  imodintro
  isplitl
  · isplitl [HR]; · iexact HR
    isplitl [Hlev]; · iexact Hlev
    isplitl [HaB HtB H1]
    · isplitl [HtB]; · iexact HtB
      isplitl [HaB] <;> iassumption
    isplitl [Hat HN]
    · iapply (Entails.of_eq (bigSep_sep' Finset.univ (fun j : Fin 8 => bigSep Finset.univ fun k : Fin 4 => (atPos ER (cell c k j) 0 ∅ 0 : sProp 𝕄))
        (fun j => iprop(cred (tallyAt (cell c 1 j) () NN) ∗ cred (tallyAt (cell c 3 j) () NL)))).symm)
      isplitl [Hat] <;> iassumption
    iexact Htok
  · iempintro

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop((∃ K, records m K) ∗ levAts L lv ∗ entry c) from rfl, scopedRest0_eq]
  unfold start entry
  iintro ⟨⟨HR, HL, HB, HW, HT⟩, -, HS⟩
  isplitl [HR]; · iexact HR
  isplitl [HL]; · iexact HL
  isplitl [HB]; · iexact HB
  isplitl [HW]; · iexact HW
  isplitl [HT]; · iexact HT
  iexact HS

theorem state_last (c : Dev nD) : (dats m 0 c).Φ (Fin.last cfg0.N) = iprop((∃ K, records m K) ∗ levAts L lv ∗ final c) := by
  have h : (Fin.last cfg0.N).val = 8 := cfg0_N
  show phi m c (Fin.last cfg0.N).val = _
  rw [h]; rfl

theorem phi_last (c : Dev nD) :
    (dats m 0 c).Φ (Fin.last cfg0.N) ⊢ iprop(unscopedSems0 c ∗ Pipeline.ownSems0 osem c ∗ Pipeline.scopedRest cfg0.spec c) := by
  rw [state_last, scopedRest0_eq, ownSems0_rows, unscopedSems0_bar]
  unfold final
  iintro ⟨-, -, HB, HC, HS⟩
  isplitl [HB]; · iexact HB
  isplitl [HC]; · iexact HC
  iexact HS

theorem owed_last (c : Dev nD) : (dats m 0 c).owed (Fin.last cfg0.N) = 0 := by
  have h : (Fin.last cfg0.N).val = 8 := cfg0_N
  show owedAt c (Fin.last cfg0.N).val = 0
  rw [h, owedAt_succ c 8 (by decide), rowsOwe_eight]

theorem waits (c : Dev nD) : (levAts L lv : sProp 𝕄) ⊢ Pipeline.cellsWaits cfgs (dats m) () 0 c :=
  Pipeline.cellsWaits_intro cfgs (dats m) () 0 c fun w s t =>
    mayWait_low c t.val _ (by fin_cases w <;> fin_cases s <;> decide)

/-! ## The run -/

/-- Every window's array at what the pipeline leaves in it. -/
def Arrays : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with every counter at zero, every execution ends, with every array at what the pipeline leaves in it and
    every counter at zero. -/
theorem run_main : θ_run defs (onTc (τ := τ) (main (F := F))) ⟨m, fun _ => 0, ρ⟩ (fun r => Arrays m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := owed_last m)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Frames.lean ====
/-
# `Frames`: the three programs run, keep their arguments and end with every counter at zero

The run of the exchange (`Exchange.run_main`) holds for any float values. At the ideal values it is the idealized program's;
at the machine's values, with every named constant read as its own bits, it is the program's as written, for the two differ
in that constant alone. The reference is a list of host operations.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-! ## The side conditions of the precondition -/

instance factsPreKernelIdeal : Cert.Pre_finite_qk_KernelIdeal.Facts where
  bcast_S_S8x8x16x128 := by decide
  reducesTo_S8x8x16x128_S_d0_1_2_3 := by decide
  h_S_ := by decide
  bcast_S_S8x1024x16x128 := by decide
  reducesTo_S8x1024x16x128_S_d0_1_2_3 := by decide

instance factsPreReferenceIdeal : Cert.Pre_finite_qk_ReferenceIdeal.Facts where
  bcast_S_S8x8x16x128 := by decide
  reducesTo_S8x8x16x128_S_d0_1_2_3 := by decide
  h_S_ := by decide
  bcast_S_S8x2048x16x128 := by decide
  reducesTo_S8x2048x16x128_S_d0_1_2_3 := by decide

/-! ## The exchange, at any values -/

section Any

open Cert.KernelIdeal Cert.KernelIdeal.Gen

variable {F : FTy → Type} [FloatOps F] [Named F]

/-- What the frame of the exchange says of a final state: the arguments as launched and the counters at zero. -/
def Kept (m : (ℓ : Loc nD τ sig) → Buf (Elt F) ℓ) (s : MemSt nD τ sig (Elt F)) : Prop :=
  (∀ c : Dev nD,
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2))
  ∧ s.sem = fun _ => 0

/-- The three input arrays end as launched. -/
theorem args_of_arrays (m : (ℓ : Loc nD τ sig) → Buf (Elt F) ℓ) {r : PUnit × MemSt nD τ sig (Elt F)} (h : Exchange.Arrays m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h c 0).trans ((Exchange.dats m 0 c).arrAt_in 0 rfl _), (h c 1).trans ((Exchange.dats m 0 c).arrAt_in 1 rfl _),
    (h c 2).trans ((Exchange.dats m 0 c).arrAt_in 2 rfl _)⟩

/-- Every execution of the exchange ends with its arguments as launched and its counters at zero. -/
theorem kept (m : (ℓ : Loc nD τ sig) → Buf (Elt F) ℓ) (ρ : Dev nD → PrngReg) :
    θ_run defs (onTc (τ := τ) (main (F := F))) ⟨m, fun _ => 0, ρ⟩ (fun r => Kept m r.2) :=
  (θ_run defs _ _).mono (fun _ h => ⟨args_of_arrays m h.1, h.2⟩) (Exchange.run_main m ρ)

end Any

/-! ## The program as written -/

/-- At the machine's values a named constant is its own bits. -/
@[reducible] def ownBits : Named Bits := ⟨fun _ _ φ w => FloatOps.ofBits φ w⟩

section Bits

attribute [local instance] ownBits

set_option maxRecDepth 65536

/-- So read, the idealized kernel's functions are the written kernel's, -/
theorem defs₀_bits : (Cert.KernelIdeal.defs₀ (F := Bits)) = (Cert.Kernel.defs₀ (F := Bits)) := by
  unfold Cert.KernelIdeal.defs₀ Cert.Kernel.defs₀
  refine congrArg Defs.onTc ?_
  funext l x
  match l, x with
  | 0, (t, s) => exact rfl

theorem defs_bits : (Cert.KernelIdeal.defs (F := Bits)) = (Cert.Kernel.defs (F := Bits)) :=
  congrArg (Pipeline.defs Cert.Kernel.pcfgs) defs₀_bits

/-- and its run is the written program's. -/
theorem frame_kernel : Cert.quiescent_Kernel := fun m g _ => by
  have h := kept (F := Bits) m g
  rw [defs_bits] at h
  exact h

end Bits

/-! ## The idealized program and the reference -/

theorem frame_kernelIdeal : Cert.quiescent_KernelIdeal := fun m g _ => kept (F := Ideal) m g

theorem frame_kernelIdeal_pre : Cert.quiescent_KernelIdeal_pre_finite_qk_KernelIdeal := fun m g _ => kept (F := Ideal) m g

/-- The reference's arguments end as launched; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_finite_qk_ReferenceIdeal := fun m g _ => frame_reference m g trivial

/-- The idealized program is the written one with the mask read as −∞. -/
theorem preserves : Cert.preserves_Kernel_KernelIdeal :=
  IdealRules.named_const.statement Cert.KernelIdeal.κ "mask" .f32 0xCE6E6B28#32 ⊥ rfl

end Cert.Proof

end
-- ==== Proof.Weights.lean ====
/-
# Weighted means over real scores

Finite sums of extended reals, and the one law of the softmax this proof needs: shifting every score by the same real
number, and dividing each weight before or after the weighted values are summed, changes nothing. The values weighted
may be infinite; the scores are real.
-/
module

public import Mathlib.Data.EReal.Inv
public import Mathlib.Analysis.SpecialFunctions.Exp
public import Idealize.ShloMosaic.PureOps.Ideal.Laws

@[expose] public section

noncomputable section

namespace Cert.Weights

open Idealize.ShloMosaic

variable {ι : Type} [Fintype ι]

/-- A finite sum of reals, read among the extended reals. -/
theorem coe_sum (f : ι → ℝ) : ((∑ i, f i : ℝ) : EReal) = ∑ i, (f i : EReal) :=
  map_sum (⟨⟨Real.toEReal, EReal.coe_zero⟩, EReal.coe_add⟩ : ℝ →+ EReal) f Finset.univ

/-- A nonnegative real factor goes through a sum of extended reals. -/
theorem sum_mul_coe (f : ι → EReal) {c : ℝ} (hc : 0 ≤ c) : ∑ i, f i * (c : EReal) = (∑ i, f i) * (c : EReal) := by
  classical
  induction (Finset.univ : Finset ι) using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- The mean of `v` with weights the exponentials of the scores `s`: numerator over denominator. -/
def mean (s : ι → ℝ) (v : ι → EReal) : EReal :=
  Ideal.div (∑ k, ((Real.exp (s k) : ℝ) : EReal) * v k) (∑ k, ((Real.exp (s k) : ℝ) : EReal))

/-- The mean with every weight divided by the total first, each score having had the real number `M` taken off. -/
theorem mean_shifted [Nonempty ι] (s : ι → ℝ) (v : ι → EReal) (M : ℝ) :
    ∑ k, v k * Ideal.div ((Real.exp (s k - M) : ℝ) : EReal) (∑ j, ((Real.exp (s j - M) : ℝ) : EReal)) = mean s v := by
  have hS : 0 < ∑ j, Real.exp (s j) := Finset.sum_pos (fun j _ => Real.exp_pos _) Finset.univ_nonempty
  have hT : 0 < ∑ j, Real.exp (s j - M) := Finset.sum_pos (fun j _ => Real.exp_pos _) Finset.univ_nonempty
  have hM : ∑ j, Real.exp (s j - M) = (∑ j, Real.exp (s j)) * Real.exp (-M) := by
    rw [Finset.sum_mul]
    exact Finset.sum_congr rfl fun j _ => by rw [sub_eq_add_neg, Real.exp_add]
  unfold mean
  rw [← coe_sum, ← coe_sum, Ideal.div_coe hS.ne', ← sum_mul_coe _ (by positivity)]
  refine Finset.sum_congr rfl fun k _ => ?_
  have hk : Real.exp (s k - M) * (1 / ∑ j, Real.exp (s j - M)) = Real.exp (s k) * (1 / ∑ j, Real.exp (s j)) := by
    rw [hM, sub_eq_add_neg, Real.exp_add]
    have := Real.exp_pos (-M)
    field_simp
  rw [Ideal.div_coe hT.ne', ← EReal.coe_mul, hk, EReal.coe_mul, ← mul_assoc, mul_comm (v k)]

/-- A real number is neither infinity, and a value that is neither is real. -/
theorem exists_coe {x : EReal} (ht : x ≠ ⊤) (hb : x ≠ ⊥) : ∃ r : ℝ, x = (r : EReal) := ⟨x.toReal, (EReal.coe_toReal ht hb).symm⟩

/-- The greatest of finitely many reals, at least one, taken from minus infinity, is real. -/
theorem fold_max_real {κ : Type} (S : Finset κ) (hS : S.Nonempty) (f : κ → EReal) (g : κ → ℝ) (hf : ∀ k ∈ S, f k = g k) :
    ∃ M : ℝ, S.fold max ⊥ f = (M : EReal) := by
  refine exists_coe ?_ ?_
  · refine ne_of_lt ((Finset.fold_max_lt ⊤).2 ⟨bot_lt_top, fun k hk => ?_⟩)
    rw [hf k hk]; exact EReal.coe_lt_top _
  · obtain ⟨k, hk⟩ := hS
    refine ne_of_gt ((Finset.lt_fold_max ⊥).2 (Or.inr ⟨k, hk, ?_⟩))
    rw [hf k hk]; exact EReal.bot_lt_coe _

end Cert.Weights

end
-- ==== Proof.Score.lean ====
/-
# The score of a query against a key

The inner product of two rows of real numbers times the scale both programs name by the same pattern. One program
multiplies the query by the scale before the inner product, the other the inner product after it: both values are this
real number.
-/
module

public import proofs.«01_k».proof.Proof.Weights

@[expose] public section

noncomputable section

namespace Cert.Weights

open Idealize.ShloMosaic

/-- A value that is neither infinity. -/
def Finite (x : EReal) : Prop := x ≠ ⊤ ∧ x ≠ ⊥

theorem Finite.coe {x : EReal} (h : Finite x) : x = (x.toReal : EReal) := (EReal.coe_toReal h.1 h.2).symm

/-- The scale, as a real number. -/
def scale : ℝ := (Ideal.ofBits .f32 0x3DB504F3#32).toReal

theorem scale_coe : Ideal.ofBits .f32 0x3DB504F3#32 = (scale : EReal) := by
  have h : ∃ r : ℝ, Ideal.ofBits .f32 0x3DB504F3#32 = (r : EReal) := by
    simp only [Ideal.ofBits, Ideal.ieee]
    rw [if_neg (by decide), if_neg (by decide)]
    exact ⟨_, rfl⟩
  obtain ⟨r, hr⟩ := h
  rw [scale, hr, EReal.toReal_coe]

variable {n : Nat}

/-- The score of the row `x` against the row `y`. -/
def score (x y : Fin n → EReal) : ℝ := (∑ d, (x d).toReal * (y d).toReal) * scale

/-- The inner product scaled after it is taken. -/
theorem score_after (x y : Fin n → EReal) (hx : ∀ d, Finite (x d)) (hy : ∀ d, Finite (y d)) :
    (∑ d, x d * y d) * Ideal.ofBits .f32 0x3DB504F3#32 = (score x y : EReal) := by
  rw [scale_coe, score, EReal.coe_mul, coe_sum]
  congr 1
  exact Finset.sum_congr rfl fun d _ => by rw [EReal.coe_mul, ← (hx d).coe, ← (hy d).coe]

/-- The inner product with the one row scaled before it is taken. -/
theorem score_before (x y : Fin n → EReal) (hx : ∀ d, Finite (x d)) (hy : ∀ d, Finite (y d)) :
    ∑ d, y d * (x d * Ideal.ofBits .f32 0x3DB504F3#32) = (score x y : EReal) := by
  rw [scale_coe, score, Finset.sum_mul, coe_sum]
  refine Finset.sum_congr rfl fun d _ => ?_
  rw [(hx d).coe, (hy d).coe, ← EReal.coe_mul, ← EReal.coe_mul, EReal.toReal_coe, EReal.toReal_coe]
  exact congrArg _ (by ring)

end Cert.Weights

end
-- ==== Proof.Reference.lean ====
/-
# What the reference computes

At an index of the result, over real queries and keys: the mean of the values of that batch, head and column, weighted
by the exponentials of the scores.
-/
module

public import proofs.«01_k».proof.Proof.Gen.ReferenceIdeal.Read
public import proofs.«01_k».proof.Proof.Score
public import Idealize.ShloMosaic.Lib.Pointwise.Index

@[expose] public section

noncomputable section

namespace Cert.Reference

open Cert.ReferenceIdeal Cert.ReferenceIdeal.Gen Cert.ReferenceIdeal.Read Cert.Weights Idealize.ShloMosaic

abbrev Queries := (⟨S8x8x16x128, .f32⟩ : BufTy).Contents (Elt Ideal)
abbrev Keys := (⟨S8x2048x16x128, .f32⟩ : BufTy).Contents (Elt Ideal)

/-- The score of query `q` against key `k`, in batch `b` and head `h`. -/
def scoreAt (Q : Queries) (K : Keys) (b q : Fin 8) (h : Fin 16) (k : Fin 2048) : ℝ :=
  score (fun d : Fin 128 => Q (ix4 b q h d)) (fun d : Fin 128 => K (ix4 b k h d))

variable (Q : Queries) (K V : Keys) (hQ : ∀ i, Finite (Q i)) (hK : ∀ i, Finite (K i))

include hQ hK

/-- The scaled scores. -/
theorem scaled_apply (b q : Fin 8) (h : Fin 16) (k : Fin 2048) :
    val_main_v2 (F := Ideal) Q K (ix4 b h q k) = (scoreAt Q K b q h k : EReal) := by
  have hl : ∀ d : Fin 128, lidx_main_v0 (ix4 b h q k) d = ix4 b q h d := fun d => by
    funext a; match a with | ⟨0, _⟩ => rfl | ⟨1, _⟩ => rfl | ⟨2, _⟩ => rfl | ⟨3, _⟩ => rfl
  have hr : ∀ d : Fin 128, ridx_main_v0 (ix4 b h q k) d = ix4 b k h d := fun d => by
    funext a; match a with | ⟨0, _⟩ => rfl | ⟨1, _⟩ => rfl | ⟨2, _⟩ => rfl | ⟨3, _⟩ => rfl
  rw [val_main_v2_apply, val_main_v0_apply, val_main_v1_apply, val_main_cst_apply]
  simp only [hl, hr]
  exact score_after _ _ (fun _ => hQ _) (fun _ => hK _)

/-- The greatest score of a query is a real number. -/
theorem max_real (b q : Fin 8) (h : Fin 16) : ∃ M : ℝ, val_main_v3 (F := Ideal) Q K (ix3 b h q) = (M : EReal) := by
  have hR : Shape.Reduces S8x16x8x2048 [3] S8x16x8 := by decide
  have hlift : ∀ k : Fin 2048, hR.lift (ix3 b h q) k = ix4 b h q k := fun k => by
    funext a; match a with | ⟨0, _⟩ => rfl | ⟨1, _⟩ => rfl | ⟨2, _⟩ => rfl | ⟨3, _⟩ => rfl
  unfold val_main_v3
  rw [Host.reduce_eq_fold_single _ _ _ _ hR, val_main_cst_0_apply]
  have hbot : (FloatOps.ofBits .f32 0xFF800000#32 : Ideal .f32) = (⊥ : EReal) := by
    show Ideal.ofBits .f32 0xFF800000#32 = ⊥
    simp [Ideal.ofBits, Ideal.ieee]
  rw [hbot]
  exact fold_max_real Finset.univ ⟨(0 : Fin 2048), Finset.mem_univ _⟩ _ (fun k => scoreAt Q K b q h k) fun k _ => by
    show val_main_v2 (F := Ideal) Q K (hR.lift (ix3 b h q) k) = _
    rw [hlift]
    exact scaled_apply Q K hQ hK b q h k

/-- The exponential of a score less the greatest. -/
theorem exp_apply (b q : Fin 8) (h : Fin 16) {M : ℝ} (hM : val_main_v3 (F := Ideal) Q K (ix3 b h q) = (M : EReal))
    (k : Fin 2048) :
    val_main_v7 (F := Ideal) Q K (ix4 b h q k) = ((Real.exp (scoreAt Q K b q h k - M) : ℝ) : EReal) := by
  have hi : idx_main_v4 (idx_main_v5 (ix4 b h q k)) = ix3 b h q := by
    funext a; match a with | ⟨0, _⟩ => rfl | ⟨1, _⟩ => rfl | ⟨2, _⟩ => rfl
  rw [val_main_v7_apply, val_main_v6_apply, val_main_v5_apply, val_main_v4_apply, hi, hM, scaled_apply Q K hQ hK]
  show Ideal.exp ((scoreAt Q K b q h k : EReal) - (M : EReal)) = _
  rw [← EReal.coe_sub]
  rfl

/-- The total of a query's exponentials. -/
theorem total_apply (b q : Fin 8) (h : Fin 16) {M : ℝ} (hM : val_main_v3 (F := Ideal) Q K (ix3 b h q) = (M : EReal)) :
    val_main_v8 (F := Ideal) Q K (ix3 b h q)
      = ∑ k : Fin 2048, ((Real.exp (scoreAt Q K b q h k - M) : ℝ) : EReal) := by
  have hi : ∀ k : Fin 2048, idx_main_v8 (ix3 b h q) k = ix4 b h q k := fun k => by
    funext a; match a with | ⟨0, _⟩ => rfl | ⟨1, _⟩ => rfl | ⟨2, _⟩ => rfl | ⟨3, _⟩ => rfl
  have hzero : (FloatOps.ofBits .f32 0x00000000#32 : Ideal .f32) = (0 : EReal) := Ideal.ofBits_zero_f32
  rw [val_main_v8_apply, val_main_cst_1_apply, hzero, zero_add]
  exact Finset.sum_congr rfl fun k _ => by rw [hi]; exact exp_apply Q K hQ hK b q h hM k

/-- The result at an index: the mean of the values, weighted by the exponentials of the scores. -/
theorem result_apply (b q : Fin 8) (h : Fin 16) (d : Fin 128) :
    val_main_v13 (F := Ideal) Q K V (ix4 b q h d) = mean (scoreAt Q K b q h) (fun k => V (ix4 b k h d)) := by
  obtain ⟨M, hM⟩ := max_real Q K hQ hK b q h
  have hi : idx_main_v13 (ix4 b q h d) = ix4 b h d q := by
    funext a; match a with | ⟨0, _⟩ => rfl | ⟨1, _⟩ => rfl | ⟨2, _⟩ => rfl | ⟨3, _⟩ => rfl
  have hl : ∀ k : Fin 2048, lidx_main_v12 (ix4 b h d q) k = ix4 b k h d := fun k => by
    funext a; match a with | ⟨0, _⟩ => rfl | ⟨1, _⟩ => rfl | ⟨2, _⟩ => rfl | ⟨3, _⟩ => rfl
  have hr : ∀ k : Fin 2048, ridx_main_v12 (ix4 b h d q) k = ix4 b h q k := fun k => by
    funext a; match a with | ⟨0, _⟩ => rfl | ⟨1, _⟩ => rfl | ⟨2, _⟩ => rfl | ⟨3, _⟩ => rfl
  have ht : ∀ k : Fin 2048, idx_main_v9 (idx_main_v10 (ix4 b h q k)) = ix3 b h q := fun k => by
    funext a; match a with | ⟨0, _⟩ => rfl | ⟨1, _⟩ => rfl | ⟨2, _⟩ => rfl
  rw [val_main_v13_apply, hi, val_main_v12_apply, ← mean_shifted _ _ M]
  refine Finset.sum_congr rfl fun k _ => ?_
  rw [hl, hr, val_main_v11_apply, val_main_v10_apply, val_main_v9_apply, ht, exp_apply Q K hQ hK b q h hM,
    total_apply Q K hQ hK b q h hM]
  rfl

end Cert.Reference

end
-- ==== Proof.Mask.lean ====
/-
# The mask the kernel adds to the scores

The kernel scores every query and head against every key and head, in one matrix, and masks the entries whose two heads
differ: a row is a key and a head, sixteen heads to a key, a column a query and a head.
-/
module

public import proofs.«01_k».proof.Proof.Cells
public import proofs.«01_k».proof.Proof.Score
public import Idealize.ShloMosaic.Lib.Routing.Words

@[expose] public section

noncomputable section

namespace Cert.Block

open Cert.KernelIdeal Cert.KernelIdeal.Gen Cert.Weights Idealize.ShloMosaic

/-- The remainder by sixteen as the kernel takes it of a word: the remainder of the truncated division, sixteen added
    where it is nonzero and its sign is not the divisor's. -/
def wordMod (x : BitVec 32) : BitVec 32 :=
  Scalar.select
    (IntOp.andi (IntOp.xori (IntOp.cmpi .slt (IntOp.remsi .vector x 16#32) 0#32) (IntOp.cmpi .slt 16#32 0#32))
      (IntOp.cmpi .ne (IntOp.remsi .vector x 16#32) 0#32))
    (IntOp.addi (IntOp.remsi .vector x 16#32) 16#32) (IntOp.remsi .vector x 16#32)

theorem wordMod_ofNat {n : ℕ} (hn : n < 2 ^ 31) : wordMod (BitVec.ofNat 32 n) = BitVec.ofNat 32 (n % 16) := by
  have hr : IntOp.remsi .vector (BitVec.ofNat 32 n) 16#32 = BitVec.ofNat 32 (n % 16) :=
    Routing.remsi_word .vector hn (by omega) (by omega)
  have hlt : n % 16 < 16 := Nat.mod_lt _ (by decide)
  unfold wordMod
  rw [hr]
  generalize n % 16 = a at hlt
  revert a
  decide

/-- The mask, at a row (a key and a head) and a column (a query and a head): zero where the heads agree, and minus
    infinity elsewhere. -/
theorem mask_apply (r : Fin 16384) (c : Fin 128) :
    k0_pay2 (F := Ideal) (ix2 r c) = if r.val % 16 = c.val % 16 then (0 : EReal) else ⊥ := by
  unfold k0_pay2
  rw [shapeCast_self]
  change Scalar.select (IntOp.cmpi .eq (wordMod (BitVec.ofNat 32 (0 * 16384 + r.val))) (wordMod (BitVec.ofNat 32 (0 * 128 + c.val))))
    (Ideal.ofBits .f32 0x00000000#32) (Named.named (F := Ideal) κ "mask" 0xCE6E6B28#32) = _
  have hn : Named.named (F := Ideal) (φ := .f32) κ "mask" 0xCE6E6B28#32 = (⊥ : EReal) := rfl
  simp only [Nat.zero_mul, Nat.zero_add]
  rw [wordMod_ofNat (by omega), wordMod_ofNat (by omega), hn,
    Ideal.ofBits_zero_f32]
  have h1 : r.val % 16 < 16 := Nat.mod_lt _ (by decide)
  have h2 : c.val % 16 < 16 := Nat.mod_lt _ (by decide)
  generalize r.val % 16 = a at h1
  generalize c.val % 16 = b at h2
  have he : IntOp.cmpi .eq (BitVec.ofNat 32 a) (BitVec.ofNat 32 b) = 1#1 ↔ a = b := by
    revert a b; decide
  unfold Scalar.select
  exact if_congr he rfl rfl

end Cert.Block

end
-- ==== Proof.Block.lean ====
/-
# One example's block: the exponentials and the two partial sums

What the kernel computes of one example, at the ideal values and entry by entry. The block of keys is read as one row
per key and head, the queries as one column per query and head; the scores are one matrix product, masked where the two
heads differ, so that the sums over all keys and heads of the masked exponentials are the sums over the keys at the
query's own head.
-/
module

public import proofs.«01_k».proof.Proof.Mask
public import Idealize.ShloMosaic.Lib.ValueIdx

@[expose] public section

noncomputable section

namespace Cert.Block

open Cert.KernelIdeal Cert.KernelIdeal.Gen Cert.Weights Idealize.ShloMosaic

/-! ## Rows and columns -/

/-- The row of key `k` and head `h`. -/
def rowIx (k : Fin 1024) (h : Fin 16) : Fin 16384 := ⟨k.val * 16 + h.val, by omega⟩
/-- The column of query `q` and head `h`. -/
def colIx (q : Fin 8) (h : Fin 16) : Fin 128 := ⟨q.val * 16 + h.val, by omega⟩

/-- A sum over the rows is a sum over the keys and the heads. -/
theorem sum_rows (f : Fin 16384 → EReal) : ∑ r, f r = ∑ k, ∑ h, f (rowIx k h) := by
  rw [← Fintype.sum_prod_type' fun k h => f (rowIx k h)]
  exact (Fintype.sum_equiv (finProdFinEquiv : Fin 1024 × Fin 16 ≃ Fin 16384) _ _ fun p => congrArg f (Fin.ext (by
    show p.1.val * 16 + p.2.val = p.2.val + 16 * p.1.val
    omega))).symm

/-! ## The matrix products -/

/-- A matrix product into a zero accumulator, its one contracted coordinate named. -/
theorem matmul_sum {sl sr so : Shape} {φ₁ φ₂ : FTy} (D : DotDims sl sr so) (n : Nat) (hr : D.contr.rank = 1)
    (hs : D.contr.size ⟨0, by omega⟩ = n) (x : FVec Ideal sl φ₁) (y : FVec Ideal sr φ₂) (j : so.Idx) (L : Fin n → sl.Idx)
    (R : Fin n → sr.Idx) (hL : ∀ k, D.lhsIdx j ((ValueIdx.contrEquiv1 D n hr hs).symm k) = L k)
    (hR : ∀ k, D.rhsIdx j ((ValueIdx.contrEquiv1 D n hr hs).symm k) = R k) :
    FloatOps.matmul D none x y (constant so .f32 0x00000000#32) j = ∑ k : Fin n, x (L k) * y (R k) := by
  rw [Ideal.matmul_constant_zero_apply, ← Equiv.sum_comp (ValueIdx.contrEquiv1 D n hr hs).symm]
  exact Finset.sum_congr rfl fun k _ => by rw [hL, hR]

/-- The products of the rows of one matrix with the rows of another, -/
theorem matmul_rows (x : FVec Ideal S16384x128 .bf16) (y : FVec Ideal S128x128 .bf16) (r : Fin 16384) (c : Fin 128) :
    FloatOps.matmul dot_S16384x128_S128x128_S16384x128_1_1_0_0_n_n none x y (constant S16384x128 .f32 0x00000000#32) (ix2 r c)
      = ∑ d : Fin 128, x (ix2 r d) * y (ix2 c d) :=
  matmul_sum _ 128 rfl rfl x y _ (fun d => ix2 r d) (fun d => ix2 c d)
    (fun d => by funext a; match a with | ⟨0, _⟩ => rfl | ⟨1, _⟩ => rfl)
    (fun d => by funext a; match a with | ⟨0, _⟩ => rfl | ⟨1, _⟩ => rfl)

/-- and of the columns of one with the columns of another, 128 -/
theorem matmul_cols (x y : FVec Ideal S16384x128 .bf16) (a b : Fin 128) :
    FloatOps.matmul dot_S16384x128_S16384x128_S128x128_0_0_1_1_n_n none x y (constant S128x128 .f32 0x00000000#32) (ix2 a b)
      = ∑ r : Fin 16384, x (ix2 r a) * y (ix2 r b) :=
  matmul_sum _ 16384 rfl rfl x y _ (fun r => ix2 r a) (fun r => ix2 r b)
    (fun d => by funext a; match a with | ⟨0, _⟩ => rfl | ⟨1, _⟩ => rfl)
    (fun d => by funext a; match a with | ⟨0, _⟩ => rfl | ⟨1, _⟩ => rfl)

/-- or 8 of them. -/
theorem matmul_cols8 (x : FVec Ideal S16384x128 .bf16) (y : FVec Ideal S16384x8 .bf16) (a : Fin 128) (b : Fin 8) :
    FloatOps.matmul dot_S16384x128_S16384x8_S128x8_0_0_1_1_n_n none x y (constant S128x8 .f32 0x00000000#32) (ix2 a b)
      = ∑ r : Fin 16384, x (ix2 r a) * y (ix2 r b) :=
  matmul_sum _ 16384 rfl rfl x y _ (fun r => ix2 r a) (fun r => ix2 r b)
    (fun d => by funext a; match a with | ⟨0, _⟩ => rfl | ⟨1, _⟩ => rfl)
    (fun d => by funext a; match a with | ⟨0, _⟩ => rfl | ⟨1, _⟩ => rfl)

/-! ## The blocks as matrices -/

/-- A block of keys or of values as a matrix, at the row of a key and a head. -/
theorem rows_apply (v : FVec Ideal S1x1024x16x128 .f32) (k : Fin 1024) (h : Fin 16) (d : Fin 128) :
    k0_pay7 (F := Ideal) v (ix2 (rowIx k h) d) = v (ix4 0 k h d) := by
  unfold k0_pay7
  rw [ValueIdx.truncf_apply, shapeCast_apply _ _ _ (ix3 k h d) (by rw [Shape.rowMajor_val_three, Shape.rowMajor_val_two]; rfl),
    shapeCast_apply _ _ _ (ix4 0 k h d) (by
      rw [Shape.rowMajor_val_four, Shape.rowMajor_val_three]
      show ((0 * 1024 + k.val) * 16 + h.val) * 128 + d.val = (k.val * 16 + h.val) * 128 + d.val
      omega)]

/-- A block of queries as a matrix, at the column of a query and a head. -/
theorem cols_apply (v : FVec Ideal S1x8x16x128 .f32) (q : Fin 8) (h : Fin 16) (d : Fin 128) :
    shapeCast S128x128 (shapeCast S8x16x128 v shapeCasts_S1x8x16x128_S8x16x128) shapeCasts_S8x16x128_S128x128
      (ix2 (colIx q h) d) = v (ix4 0 q h d) := by
  rw [shapeCast_apply _ _ _ (ix3 q h d) (by rw [Shape.rowMajor_val_three, Shape.rowMajor_val_two]; rfl),
    shapeCast_apply _ _ _ (ix4 0 q h d) (by
      rw [Shape.rowMajor_val_four, Shape.rowMajor_val_three]
      show ((0 * 8 + q.val) * 16 + h.val) * 128 + d.val = (q.val * 16 + h.val) * 128 + d.val
      omega)]

/-! ## The masked exponentials -/

/-- The score of query `q` against key `k`, in head `h`, within a block of queries and a block of keys. -/
def blockScore (Q : FVec Ideal S1x8x16x128 .f32) (K : FVec Ideal S1x1024x16x128 .f32) (q : Fin 8) (h : Fin 16)
    (k : Fin 1024) : ℝ :=
  score (fun d : Fin 128 => Q (ix4 0 q h d)) (fun d : Fin 128 => K (ix4 0 k h d))

variable (Q : FVec Ideal S1x8x16x128 .f32) (K V : FVec Ideal S1x1024x16x128 .f32)

/-- The exponential of a score and its mask: of the score where the heads agree, and nothing elsewhere. -/
theorem exp_apply (hQ : ∀ i, Finite (Q i)) (hK : ∀ i, Finite (K i)) (k : Fin 1024) (h' : Fin 16) (q : Fin 8) (h : Fin 16) :
    k0_pay6 (F := Ideal) Q K (k0_pay2 (F := Ideal)) (ix2 (rowIx k h') (colIx q h))
      = if h' = h then ((Real.exp (blockScore Q K q h k) : ℝ) : EReal) else 0 := by
  have hs : ∀ r c, k0_pay6 (F := Ideal) Q K (k0_pay2 (F := Ideal)) (ix2 r c) = Ideal.exp
      ((∑ d : Fin 128, k0_pay7 (F := Ideal) K (ix2 r d) * (shapeCast S128x128 (shapeCast S8x16x128 Q
        shapeCasts_S1x8x16x128_S8x16x128) shapeCasts_S8x16x128_S128x128 (ix2 c d) * Ideal.ofBits .f32 0x3DB504F3#32))
      + k0_pay2 (F := Ideal) (ix2 r c)) := fun r c => by
    exact congrArg (fun s : EReal => Ideal.exp (s + k0_pay2 (F := Ideal) (ix2 r c)))
      (matmul_rows (k0_pay7 (F := Ideal) K) (fun i => shapeCast S128x128 (shapeCast S8x16x128 Q
        shapeCasts_S1x8x16x128_S8x16x128) shapeCasts_S8x16x128_S128x128 i * Ideal.ofBits .f32 0x3DB504F3#32) r c)
  have hh : (rowIx k h').val % 16 = (colIx q h).val % 16 ↔ h' = h := by
    rw [Fin.ext_iff]
    show (k.val * 16 + h'.val) % 16 = (q.val * 16 + h.val) % 16 ↔ h'.val = h.val
    omega
  rw [hs, mask_apply]
  simp only [rows_apply, cols_apply, hh]
  split
  · next e => subst e; rw [add_zero, score_before _ _ (fun _ => hQ _) (fun _ => hK _)]; rfl
  · rw [EReal.add_bot]; rfl

/-! ## The two partial sums -/

/-- The numerators of a matrix of weights and one of values, -/
theorem numer_apply (p v : FVec Ideal S16384x128 .bf16) (q : Fin 8) (h : Fin 16) (d : Fin 128) :
    k0_pay8 (F := Ideal) p v (ix4 0 q h d) = ∑ r : Fin 16384, p (ix2 r (colIx q h)) * v (ix2 r d) := by
  rw [← matmul_cols]
  unfold k0_pay8
  rw [shapeCast_apply _ _ _ (ix3 q h d) (by
      rw [Shape.rowMajor_val_four, Shape.rowMajor_val_three]
      show (q.val * 16 + h.val) * 128 + d.val = ((0 * 8 + q.val) * 16 + h.val) * 128 + d.val
      omega),
    shapeCast_apply _ _ _ (ix2 (colIx q h) d) (by rw [Shape.rowMajor_val_three, Shape.rowMajor_val_two]; rfl)]

/-- and the normalisers, against a matrix of eight columns of which the first is taken. -/
theorem denom_apply (p : FVec Ideal S16384x128 .bf16) (y : FVec Ideal S16384x8 .bf16) (c : Fin 128) :
    k0_pay9 (F := Ideal) p y (ix3 0 c 0) = ∑ r : Fin 16384, p (ix2 r c) * y (ix2 r 0) := by
  rw [← matmul_cols8]
  unfold k0_pay9
  rw [shapeCast_apply _ _ _ (ix2 c 0) (by
      rw [Shape.rowMajor_val_three, Shape.rowMajor_val_two]
      show c.val * 1 + 0 = (0 * 128 + c.val) * 1 + 0
      omega),
    extractStridedSlice_apply _ _ _ _ (ix2 c 0) (fun a => by
      match a with | ⟨0, _⟩ => exact (Nat.zero_add _).symm | ⟨1, _⟩ => rfl)]

/-- The matrix of ones. -/
theorem ones_apply (i : S16384x8.Idx) :
    k0_pay5 (F := Ideal) (Scalar.ofBits .bf16 0x3F80#16) i = (1 : EReal) := by
  unfold k0_pay5
  rw [shapeCast_self]
  show Ideal.ofBits .bf16 0x3F80#16 = 1
  simp [Ideal.ofBits, Ideal.ieee]
  rw [← EReal.coe_mul, ← EReal.coe_one]
  exact congrArg _ (by norm_num)

/-- The sum over all rows of the masked exponentials times anything is the sum over the keys at the column's head. -/
theorem sum_masked (hQ : ∀ i, Finite (Q i)) (hK : ∀ i, Finite (K i)) (q : Fin 8) (h : Fin 16) (f : Fin 16384 → EReal) :
    ∑ r, k0_pay6 (F := Ideal) Q K (k0_pay2 (F := Ideal)) (ix2 r (colIx q h)) * f r
      = ∑ k, ((Real.exp (blockScore Q K q h k) : ℝ) : EReal) * f (rowIx k h) := by
  rw [sum_rows]
  refine Finset.sum_congr rfl fun k _ => ?_
  rw [Finset.sum_eq_single h (fun h' _ hne => by rw [exp_apply Q K hQ hK, if_neg hne, zero_mul])
    (fun hn => absurd (Finset.mem_univ h) hn), exp_apply Q K hQ hK, if_pos rfl]

end Cert.Block

end
-- ==== Proof.Result.lean ====
/-
# What the kernel leaves in its result

The window of the result is the whole array, written back once, so the array ends as the last grid point leaves it; and a
block of an argument at grid point `j` is that argument's example `j`. So every entry of the result is the sum of the
numerators over the device's own keys and over its peer's, divided by the two normalisers' sum.
-/
module

public import proofs.«01_k».proof.Proof.Launch
public import proofs.«01_k».proof.Proof.Block
public import Idealize.ShloMosaic.Lib.Pipeline.ValueKit

@[expose] public section

noncomputable section

namespace Cert.Block

open Cert.KernelIdeal Cert.KernelIdeal.Gen Cert.Exchange Cert.Weights Idealize.ShloMosaic Idealize.ShloMosaic.TcCoe

/-! ## The result array and the blocks of the arguments -/

/-- The result array ends as the last point leaves it. -/
theorem result_eq {F : FTy → Type} [FloatOps F] [Named F] (m : (ℓ : Loc nD τ sig) → Buf (Elt F) ℓ) (c : Dev nD) :
    (dats m 0 c).arrAt 3 cfg0.N = outAt m c := by
  refine (dats m 0 c).arrAt_eq_of_covers 3 _ (by decide +kernel) fun t hf y => ?_
  have idx : ∀ t : Fin cfg0.N, win0_3.index t = ![0, 0, 0, 0] := by decide +kernel
  blk_simp
  show outAt m c y = outAt m c _
  blk_ext [idx t]

variable (m : (ℓ : Loc nD τ sig) → Buf (Elt Ideal) ℓ)

/-- The three arguments on device `c`. -/
abbrev argQ (c : Dev nD) : FVec Ideal S8x8x16x128 .f32 := m ((c : Thread nD τ).loc main_arg0)
abbrev argK (c : Dev nD) : FVec Ideal S8x1024x16x128 .f32 := m ((c : Thread nD τ).loc main_arg1)
abbrev argV (c : Dev nD) : FVec Ideal S8x1024x16x128 .f32 := m ((c : Thread nD τ).loc main_arg2)

theorem blockQ (c : Dev nD) (j q : Fin 8) (h : Fin 16) (d : Fin 128) :
    (iblk m c 0 (pt j) : FVec Ideal S1x8x16x128 .f32) (ix4 0 q h d) = argQ m c (ix4 j q h d) := by
  have idx : ∀ j : Fin 8, win0_0.index (pt j) = ![j.val, 0, 0, 0] := by decide +kernel
  blk_ext [iblk, V, idx j]

theorem blockK (c : Dev nD) (j : Fin 8) (k : Fin 1024) (h : Fin 16) (d : Fin 128) :
    (iblk m c 1 (pt j) : FVec Ideal S1x1024x16x128 .f32) (ix4 0 k h d) = argK m c (ix4 j k h d) := by
  have idx : ∀ j : Fin 8, win0_1.index (pt j) = ![j.val, 0, 0, 0] := by decide +kernel
  blk_ext [iblk, V, idx j]

theorem blockV (c : Dev nD) (j : Fin 8) (k : Fin 1024) (h : Fin 16) (d : Fin 128) :
    (iblk m c 2 (pt j) : FVec Ideal S1x1024x16x128 .f32) (ix4 0 k h d) = argV m c (ix4 j k h d) := by
  have idx : ∀ j : Fin 8, win0_2.index (pt j) = ![j.val, 0, 0, 0] := by decide +kernel
  blk_ext [iblk, V, idx j]

/-! ## The partial sums of a device -/

/-- The score, on device `c`, of query `q` against its key `k`, in batch `b` and head `h`. -/
def scoreOn (c : Dev nD) (b q : Fin 8) (h : Fin 16) (k : Fin 1024) : ℝ :=
  score (fun d : Fin 128 => argQ m c (ix4 b q h d)) (fun d : Fin 128 => argK m c (ix4 b k h d))

theorem blockScore_eq (c : Dev nD) (b q : Fin 8) (h : Fin 16) (k : Fin 1024) :
    blockScore (iblk m c 0 (pt b)) (iblk m c 1 (pt b)) q h k = scoreOn m c b q h k := by
  unfold blockScore scoreOn
  exact congrArg₂ score (funext fun d => blockQ m c b q h d) (funext fun d => blockK m c b k h d)

/-- The queries and the keys of device `c` are real numbers. -/
def FiniteOn (c : Dev nD) : Prop := (∀ i, Finite (argQ m c i)) ∧ ∀ i, Finite (argK m c i)

variable {m} {c : Dev nD} (hc : FiniteOn m c)
include hc

theorem finite_blockQ (j : Fin 8) (i : S1x8x16x128.Idx) : Finite ((iblk m c 0 (pt j) : FVec Ideal S1x8x16x128 .f32) i) := by
  rw [eq_ix4 i, show i 0 = (0 : Fin 1) from Fin.ext (Nat.lt_one_iff.1 (i 0).isLt)]
  exact (blockQ m c j (i 1) (i 2) (i 3)).symm ▸ hc.1 _

theorem finite_blockK (j : Fin 8) (i : S1x1024x16x128.Idx) :
    Finite ((iblk m c 1 (pt j) : FVec Ideal S1x1024x16x128 .f32) i) := by
  rw [eq_ix4 i, show i 0 = (0 : Fin 1) from Fin.ext (Nat.lt_one_iff.1 (i 0).isLt)]
  exact (blockK m c j (i 1) (i 2) (i 3)).symm ▸ hc.2 _

/-- The numerators, -/
theorem numAll_apply (b q : Fin 8) (h : Fin 16) (d : Fin 128) :
    numAll m c (ix4 b q h d) = ∑ k, ((Real.exp (scoreOn m c b q h k) : ℝ) : EReal) * argV m c (ix4 b k h d) := by
  show numRow m c b (ix4 0 q h d) = _
  unfold numRow expAt
  rw [numer_apply, sum_masked _ _ (finite_blockQ hc b) (finite_blockK hc b)]
  exact Finset.sum_congr rfl fun k _ => by rw [blockScore_eq, rows_apply, blockV]

/-- and the normalisers. -/
theorem lAll_apply (b q : Fin 8) (h : Fin 16) :
    lAll m c (ix3 b (colIx q h) 0) = ∑ k, ((Real.exp (scoreOn m c b q h k) : ℝ) : EReal) := by
  show lRow m c b (ix3 0 (colIx q h) 0) = _
  unfold lRow expAt onesV
  rw [denom_apply, sum_masked _ _ (finite_blockQ hc b) (finite_blockK hc b)]
  exact Finset.sum_congr rfl fun k _ => by rw [blockScore_eq, ones_apply, mul_one]

omit hc
/-- The result at an index. -/
theorem outAt_apply (b q : Fin 8) (h : Fin 16) (d : Fin 128) :
    outAt m c (ix4 b q h d) = Ideal.div (numAll m c (ix4 b q h d) + numAll m (peer c) (ix4 b q h d))
      (lAll m c (ix3 b (colIx q h) 0) + lAll m (peer c) (ix3 b (colIx q h) 0)) := by
  unfold outAt k0_pay1 k0_pay3 k0_pay4
  rw [shapeCast_apply _ _ _ (ix3 b (colIx q h) d) (by
    rw [Shape.rowMajor_val_three, Shape.rowMajor_val_four]
    show (b.val * 128 + (q.val * 16 + h.val)) * 128 + d.val = ((b.val * 8 + q.val) * 16 + h.val) * 128 + d.val
    omega)]
  have hn := shapeCast_apply (addf (numAll m c) (numAll m (peer c))) shapeCasts_S8x8x16x128_S8x128x128 (ix3 b (colIx q h) d)
    (ix4 b q h d) (by
      rw [Shape.rowMajor_val_three, Shape.rowMajor_val_four]
      show ((b.val * 8 + q.val) * 16 + h.val) * 128 + d.val = (b.val * 128 + (q.val * 16 + h.val)) * 128 + d.val
      omega)
  have hl := broadcastTo_apply (addf (lAll m c) (lAll m (peer c))) broadcasts_S8x128x1_S8x128x128 (ix3 b (colIx q h) d)
    (ix3 b (colIx q h) 0) (fun a => by match a with | ⟨0, _⟩ => rfl | ⟨1, _⟩ => rfl | ⟨2, _⟩ => rfl)
  rw [ValueIdx.divf_apply]
  rw [hn, hl, ValueIdx.addf_apply, ValueIdx.addf_apply]

end Cert.Block

end
-- ==== Proof.Precondition.lean ====
/-
# What the precondition says

Every query and every key is smaller in absolute value than plus infinity: none is an infinity.
-/
module

public import proofs.«01_k».proof.Proof.Frames
public import proofs.«01_k».proof.Proof.Result
public import Idealize.ShloMosaic.Lib.ReduceAll

@[expose] public section

noncomputable section

namespace Cert.Proof

open Cert.Pre_finite_qk_KernelIdeal Cert.Weights Idealize.ShloMosaic Idealize.ShloMosaic.TcCoe

theorem finite_of_abs_lt {x : EReal} (h : Ideal.cmp .olt (max x (-x)) (Ideal.ofBits .f32 0x7F800000#32) = 1#1) : Finite x := by
  have ht : Ideal.ofBits .f32 0x7F800000#32 = ⊤ := by simp [Ideal.ofBits, Ideal.ieee]
  rw [ht] at h
  constructor
  · rintro rfl; simp [Ideal.cmp] at h
  · rintro rfl; simp [Ideal.cmp] at h

/-- The precondition's test of one array, at an entry. -/
theorem finite_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : Finite (x i) :=
  have : Subsingleton S_.Idx := ⟨fun a b => funext fun k => k.elim0⟩
  finite_of_abs_lt (Host.reduce_andi_all _ _ h hu j e i)

/-- Under the precondition the queries and the keys of a device are real numbers. -/
theorem finiteOn_of_pre {m : (ℓ : Loc Cert.KernelIdeal.nD Cert.KernelIdeal.τ Cert.KernelIdeal.sig) → Buf (Elt Ideal) ℓ}
    (h : Cert.Pre_KernelIdeal_finite_qk_KernelIdeal m) (c : Dev Cert.KernelIdeal.nD) : Block.FiniteOn m c := by
  have e := congrFun (h c) (fun k => k.elim0)
  dsimp only [fn] at e
  obtain ⟨e0, e1⟩ := IntOp.andi_eq_one.1 e
  exact ⟨finite_of_all _ _ _ _ _ e0, finite_of_all _ _ _ _ _ e1⟩

end Cert.Proof

end
-- ==== Proof.Halves.lean ====
/-
# The two halves of the keys

Device `c` holds half `c / 8` of the keys and of the values; its peer holds the other half. A sum over all the keys is the
device's own sum and its peer's, so what a device stores is the mean over all the keys.
-/
module

public import proofs.«01_k».proof.Proof.Result
public import proofs.«01_k».proof.Proof.Reference
public import Idealize.ShloMosaic.Lib.LayoutAt

@[expose] public section

noncomputable section

namespace Cert.Halves

open Cert.KernelIdeal Cert.Exchange Cert.Weights Cert.Block Cert.Reference Idealize.ShloMosaic Idealize.ShloMosaic.TcCoe

/-- The half of the keys a device holds. -/
def half (c : Dev nD) : Fin 2 := ⟨c.val / 8, by have := c.isLt; change c.val < 16 at this; omega⟩

/-- Key `k` of half `x`, among all the keys. -/
def keyIx (x : Fin 2) (k : Fin 1024) : Fin 2048 := ⟨x.val * 1024 + k.val, by omega⟩

theorem half_peer (c : Dev nD) : half c = 0 ∧ half (peer c) = 1 ∨ half c = 1 ∧ half (peer c) = 0 := by revert c; decide

theorem sum_keys (f : Fin 2048 → EReal) : ∑ k, f k = ∑ k, f (keyIx 0 k) + ∑ k, f (keyIx 1 k) := by
  refine (Fin.sum_univ_add (a := 1024) (b := 1024) f).trans (congrArg₂ (· + ·) ?_ ?_) <;>
    exact Finset.sum_congr rfl fun k _ => congrArg f (Fin.ext (by simp [keyIx, add_comm]))

/-- A sum over all the keys, shared between a device and its peer. -/
theorem sum_shared (c : Dev nD) (f : Fin 2048 → EReal) :
    ∑ k, f k = ∑ k, f (keyIx (half c) k) + ∑ k, f (keyIx (half (peer c)) k) := by
  rcases half_peer c with ⟨h, h'⟩ | ⟨h, h'⟩ <;> rw [h, h', sum_keys]
  exact add_comm _ _

theorem key_cases (k : Fin 2048) : ∃ x k', k = keyIx x k' :=
  ⟨⟨k.val / 1024, by omega⟩, ⟨k.val % 1024, by omega⟩, Fin.ext (by show _ = k.val / 1024 * 1024 + k.val % 1024; omega)⟩

theorem half_surj (x : Fin 2) : ∃ c, half c = x := by revert x; decide

/-- Block `c` of an array cut along its second axis over the first axis of the mesh. -/
abbrev blockOf (c : Dev nD) (v : Keys) : FVec Ideal S8x1024x16x128 .f32 :=
  Layout.blockN ⟨4, ![8, 1024, 16, 128]⟩ ⟨4, ![8, 2048, 16, 128]⟩ (Layout.meshBlock [2, 2, 4] ![[], [0], [], []] c) v

theorem meshLin_half (c : Dev nD) : Layout.meshLin [2, 2, 4] c.val [0] = (half c).val := by revert c; decide

theorem blockOf_apply (c : Dev nD) (v : Keys) (b : Fin 8) (k : Fin 1024) (h : Fin 16) (d : Fin 128) :
    blockOf c v (ix4 b k h d) = v (ix4 b (keyIx (half c) k) h d) := by
  refine congrArg v (funext fun j => Fin.ext ?_)
  match j with
  | 0 => exact (congrArg (· + b.val) (Nat.zero_mul 8)).trans (Nat.zero_add _)
  | 1 => exact congrArg (· * 1024 + k.val) (meshLin_half c)
  | 2 => exact (congrArg (· + h.val) (Nat.zero_mul 16)).trans (Nat.zero_add _)
  | 3 => exact (congrArg (· + d.val) (Nat.zero_mul 128)).trans (Nat.zero_add _)

variable {m : (ℓ : Loc nD τ sig) → Buf (Elt Ideal) ℓ} {Q : Queries} {K V : Keys}

/-- The devices hold the queries whole and their blocks of the keys and the values. -/
structure Held (m : (ℓ : Loc nD τ sig) → Buf (Elt Ideal) ℓ) (Q : Queries) (K V : Keys) : Prop where
  finite : ∀ c, FiniteOn m c
  queries : ∀ c, argQ m c = Q
  keys : ∀ c, argK m c = blockOf c K
  values : ∀ c, argV m c = blockOf c V

namespace Held

variable (H : Held m Q K V)
include H

theorem finite_queries (i : (⟨4, ![8, 8, 16, 128]⟩ : Shape).Idx) : Finite (Q i) := H.queries 0 ▸ (H.finite 0).1 i

theorem finite_keys (i : (⟨4, ![8, 2048, 16, 128]⟩ : Shape).Idx) : Finite (K i) := by
  obtain ⟨b, k, h, d, rfl⟩ : ∃ b k h d, i = ix4 b k h d := ⟨_, _, _, _, eq_ix4 i⟩
  obtain ⟨x, k', rfl⟩ := key_cases k
  obtain ⟨c, rfl⟩ := half_surj x
  have hf := (H.finite c).2 (ix4 b k' h d)
  rw [H.keys c, blockOf_apply] at hf
  exact hf

theorem scoreOn_eq (c : Dev nD) (b q : Fin 8) (h : Fin 16) (k : Fin 1024) :
    scoreOn m c b q h k = scoreAt Q K b q h (keyIx (half c) k) := by
  unfold scoreOn scoreAt
  rw [H.queries c, H.keys c]
  exact congrArg _ (funext fun d => blockOf_apply c K b k h d)

theorem numAll_eq (c : Dev nD) (b q : Fin 8) (h : Fin 16) (d : Fin 128) :
    numAll m c (ix4 b q h d) = ∑ k : Fin 1024, (fun k' => ((Real.exp (scoreAt Q K b q h k') : ℝ) : EReal) * V (ix4 b k' h d)) (keyIx (half c) k) := by
  rw [numAll_apply (H.finite c)]
  refine Finset.sum_congr rfl fun k _ => ?_
  rw [H.scoreOn_eq, H.values c, blockOf_apply]

theorem lAll_eq (c : Dev nD) (b q : Fin 8) (h : Fin 16) :
    lAll m c (ix3 b (colIx q h) 0) = ∑ k : Fin 1024, (fun k' => ((Real.exp (scoreAt Q K b q h k') : ℝ) : EReal)) (keyIx (half c) k) := by
  rw [lAll_apply (H.finite c)]
  exact Finset.sum_congr rfl fun k _ => by rw [H.scoreOn_eq]

/-- What every device stores is the reference's result. -/
theorem outAt_eq (c : Dev nD) : outAt m c = Cert.ReferenceIdeal.Read.val_main_v13 (F := Ideal) Q K V := by
  funext i
  obtain ⟨b, q, h, d, rfl⟩ : ∃ b q h d, i = ix4 b q h d := ⟨_, _, _, _, eq_ix4 i⟩
  rw [outAt_apply, H.numAll_eq, H.numAll_eq, H.lAll_eq, H.lAll_eq]
  exact ((result_apply Q K V H.finite_queries H.finite_keys b q h d).trans
    (congrArg₂ Ideal.div (sum_shared c _) (sum_shared c _))).symm

end Held

end Cert.Halves

end
-- ==== Proof.Algebraic.lean ====
/-
# `algebraic`: the kernel and the reference compute the same result

From memories that hold the same queries, and on each device its block of the reference's keys and values, every device of
the kernel ends with the reference's result.
-/
module

public import proofs.«01_k».proof.Proof.Precondition
public import proofs.«01_k».proof.Proof.Halves

@[expose] public section

noncomputable section

namespace Cert.Proof

open Idealize.ShloMosaic Idealize.ShloMosaic.TcCoe Idealize.SL.Sem

theorem algebraic : Cert.algebraic_KernelIdeal_ReferenceIdeal_pre_finite_qk_KernelIdeal := by
  intro m g m' g' hpre hlay
  have H : Halves.Held m _ _ _ :=
    ⟨finiteOn_of_pre hpre, fun c => (hlay c).1, fun c => (hlay c).2.1, fun c => (hlay c).2.2⟩
  refine ⟨_, (θ_run Cert.KernelIdeal.defs _ _).mono (fun r h c => ⟨?_, args_of_arrays m h.1 c⟩) (Exchange.run_main m g),
    (θ_run Cert.ReferenceIdeal.defs _ _).mono (fun r h => ⟨(h 0).1.trans (Cert.ReferenceIdeal.Read.val_main_v13_eq _ _ _), (h 0).2⟩)
      (Cert.ReferenceIdeal.Value.run (F := Ideal) m' g')⟩
  exact (h.1 c 3).trans ((Block.result_eq m c).trans (H.outAt_eq c))

end Cert.Proof

end
-- ==== Proof.lean ====
/-
# The proof of the certificate's claim
-/
module

public import proofs.«01_k».proof.Defs
public import proofs.«01_k».proof.Proof.Frames
public import proofs.«01_k».proof.Proof.Reference
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, factsPreKernelIdeal,
    factsPreReferenceIdeal, frame_kernel, frame_kernelIdeal, frame_kernelIdeal_pre, frame_reference,
    frame_reference_pre, preserves, algebraic⟩

end Cert.Proof

end
